-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x12x2048x64 : Shape := ⟨4, ![1, 12, 2048, 64]⟩
abbrev S_ : Shape := ⟨0, ![]⟩

class Facts : Prop where
  bcast_S_S1x12x2048x64 : S_.BroadcastsInDim S1x12x2048x64 (![] : Fin 0 → Fin S1x12x2048x64.rank)
  reducesTo_S1x12x2048x64_S_d0_1_2_3 : S1x12x2048x64.ReducesTo [0, 1, 2, 3] S_
  h_S_ : 0 < S_.numel

variable [Facts]

def fn {F : FTy → Type} [FloatOps F] (main_arg0 : FVec F S1x12x2048x64 .f32) (main_arg1 : FVec F S1x12x2048x64 .f32) (main_arg2 : FVec F S1x12x2048x64 .f32) : IVec S_ 1 :=
  let main_v0 : FVec F S1x12x2048x64 .f32 := Host.absf main_arg0
  let main_cst : FVec F S_ .f32 := constant S_ .f32 0x7F800000#32
  let main_v1 : FVec F S1x12x2048x64 .f32 := broadcastInDim S1x12x2048x64 ![] bcast_S_S1x12x2048x64 main_cst
  let main_v2 : IVec S1x12x2048x64 1 := cmpf .olt main_v0 main_v1
  let main_c : IVec S_ 1 := constantI S_ 1 1#1
  let main_v3 : IVec S_ 1 := (fun x v => Host.reduce IntOp.andi x v reducesTo_S1x12x2048x64_S_d0_1_2_3 h_S_) main_v2 main_c
  let main_v4 : FVec F S1x12x2048x64 .f32 := Host.absf main_arg1
  let main_cst_0 : FVec F S_ .f32 := constant S_ .f32 0x7F800000#32
  let main_v5 : FVec F S1x12x2048x64 .f32 := broadcastInDim S1x12x2048x64 ![] bcast_S_S1x12x2048x64 main_cst_0
  let main_v6 : IVec S1x12x2048x64 1 := cmpf .olt main_v4 main_v5
  let main_c_1 : IVec S_ 1 := constantI S_ 1 1#1
  let main_v7 : IVec S_ 1 := (fun x v => Host.reduce IntOp.andi x v reducesTo_S1x12x2048x64_S_d0_1_2_3 h_S_) main_v6 main_c_1
  let main_v8 : IVec S_ 1 := andi main_v3 main_v7
  main_v8
-- ==== Kernel.lean ====
abbrev S1x12x2048x64 : Shape := ⟨4, ![1, 12, 2048, 64]⟩
abbrev S512 : Shape := ⟨1, ![512]⟩
abbrev S12x2048x64 : Shape := ⟨3, ![12, 2048, 64]⟩
abbrev S32x512 : Shape := ⟨2, ![32, 512]⟩
abbrev S1x512 : Shape := ⟨2, ![1, 512]⟩
abbrev S_ : Shape := ⟨0, ![]⟩
abbrev S512x32 : Shape := ⟨2, ![512, 32]⟩
abbrev S512x1 : Shape := ⟨2, ![512, 1]⟩
abbrev S8x32x256 : Shape := ⟨3, ![8, 32, 256]⟩
abbrev S4x1024x256 : Shape := ⟨3, ![4, 1024, 256]⟩
abbrev S1024x256 : Shape := ⟨2, ![1024, 256]⟩
abbrev S1x1024x64 : Shape := ⟨3, ![1, 1024, 64]⟩
abbrev S1x2048x64 : Shape := ⟨3, ![1, 2048, 64]⟩
abbrev S1024x32 : Shape := ⟨2, ![1024, 32]⟩
abbrev S1024x64 : Shape := ⟨2, ![1024, 64]⟩
abbrev S2048x64 : Shape := ⟨2, ![2048, 64]⟩
abbrev S32x64x64 : Shape := ⟨3, ![32, 64, 64]⟩
abbrev S32x64 : Shape := ⟨2, ![32, 64]⟩
abbrev S1024x512 : Shape := ⟨2, ![1024, 512]⟩
abbrev S1x1024x256 : Shape := ⟨3, ![1, 1024, 256]⟩
abbrev S1x256x64 : Shape := ⟨3, ![1, 256, 64]⟩
abbrev S256x64 : Shape := ⟨2, ![256, 64]⟩
abbrev S1024 : Shape := ⟨1, ![1024]⟩
abbrev S1024x1 : Shape := ⟨2, ![1024, 1]⟩
abbrev S1x32x256 : Shape := ⟨3, ![1, 32, 256]⟩
abbrev S32x256 : Shape := ⟨2, ![32, 256]⟩

abbrev nBuf : Space → Nat
  | .hbm => 106
  | .vmem => 16
  | .smem => 0
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x64, .f32⟩
  | .hbm, ⟨3, _⟩ => ⟨S512, .i32⟩
  | .hbm, ⟨4, _⟩ => ⟨S512, .i32⟩
  | .hbm, ⟨5, _⟩ => ⟨S12x2048x64, .f32⟩
  | .hbm, ⟨6, _⟩ => ⟨S12x2048x64, .f32⟩
  | .hbm, ⟨7, _⟩ => ⟨S12x2048x64, .f32⟩
  | .hbm, ⟨8, _⟩ => ⟨S32x512, .i32⟩
  | .hbm, ⟨9, _⟩ => ⟨S1x512, .i32⟩
  | .hbm, ⟨10, _⟩ => ⟨S32x512, .i32⟩
  | .hbm, ⟨11, _⟩ => ⟨S32x512, .i1⟩
  | .hbm, ⟨12, _⟩ => ⟨S_, .f32⟩
  | .hbm, ⟨13, _⟩ => ⟨S_, .f32⟩
  | .hbm, ⟨14, _⟩ => ⟨S32x512, .f32⟩
  | .hbm, ⟨15, _⟩ => ⟨S32x512, .f32⟩
  | .hbm, ⟨16, _⟩ => ⟨S32x512, .f32⟩
  | .hbm, ⟨17, _⟩ => ⟨S1x512, .i32⟩
  | .hbm, ⟨18, _⟩ => ⟨S32x512, .i32⟩
  | .hbm, ⟨19, _⟩ => ⟨S32x512, .i1⟩
  | .hbm, ⟨20, _⟩ => ⟨S_, .f32⟩
  | .hbm, ⟨21, _⟩ => ⟨S_, .f32⟩
  | .hbm, ⟨22, _⟩ => ⟨S32x512, .f32⟩
  | .hbm, ⟨23, _⟩ => ⟨S32x512, .f32⟩
  | .hbm, ⟨24, _⟩ => ⟨S32x512, .f32⟩
  | .hbm, ⟨25, _⟩ => ⟨S512x32, .i32⟩
  | .hbm, ⟨26, _⟩ => ⟨S512x1, .i32⟩
  | .hbm, ⟨27, _⟩ => ⟨S512x32, .i32⟩
  | .hbm, ⟨28, _⟩ => ⟨S512x32, .i1⟩
  | .hbm, ⟨29, _⟩ => ⟨S512x1, .i32⟩
  | .hbm, ⟨30, _⟩ => ⟨S512x32, .i32⟩
  | .hbm, ⟨31, _⟩ => ⟨S512x32, .i1⟩
  | .hbm, ⟨32, _⟩ => ⟨S_, .f32⟩
  | .hbm, ⟨33, _⟩ => ⟨S_, .f32⟩
  | .hbm, ⟨34, _⟩ => ⟨S512x32, .f32⟩
  | .hbm, ⟨35, _⟩ => ⟨S512x32, .f32⟩
  | .hbm, ⟨36, _⟩ => ⟨S512x32, .f32⟩
  | .hbm, ⟨37, _⟩ => ⟨S_, .f32⟩
  | .hbm, ⟨38, _⟩ => ⟨S512x32, .f32⟩
  | .hbm, ⟨39, _⟩ => ⟨S512x32, .f32⟩
  | .hbm, ⟨40, _⟩ => ⟨S8x32x256, .i32⟩
  | .hbm, ⟨41, _⟩ => ⟨S8x32x256, .i32⟩
  | .hbm, ⟨42, _⟩ => ⟨S8x32x256, .i32⟩
  | .hbm, ⟨43, _⟩ => ⟨S_, .i32⟩
  | .hbm, ⟨44, _⟩ => ⟨S8x32x256, .i32⟩
  | .hbm, ⟨45, _⟩ => ⟨S8x32x256, .i32⟩
  | .hbm, ⟨46, _⟩ => ⟨S_, .i32⟩
  | .hbm, ⟨47, _⟩ => ⟨S_, .i32⟩
  | .hbm, ⟨48, _⟩ => ⟨S8x32x256, .i32⟩
  | .hbm, ⟨49, _⟩ => ⟨S8x32x256, .i32⟩
  | .hbm, ⟨50, _⟩ => ⟨S8x32x256, .i32⟩
  | .hbm, ⟨51, _⟩ => ⟨S_, .i32⟩
  | .hbm, ⟨52, _⟩ => ⟨S8x32x256, .i32⟩
  | .hbm, ⟨53, _⟩ => ⟨S8x32x256, .i1⟩
  | .hbm, ⟨54, _⟩ => ⟨S8x32x256, .i32⟩
  | .hbm, ⟨55, _⟩ => ⟨S8x32x256, .i32⟩
  | .hbm, ⟨56, _⟩ => ⟨S_, .i32⟩
  | .hbm, ⟨57, _⟩ => ⟨S8x32x256, .i32⟩
  | .hbm, ⟨58, _⟩ => ⟨S8x32x256, .i1⟩
  | .hbm, ⟨59, _⟩ => ⟨S8x32x256, .i1⟩
  | .hbm, ⟨60, _⟩ => ⟨S_, .i32⟩
  | .hbm, ⟨61, _⟩ => ⟨S8x32x256, .i32⟩
  | .hbm, ⟨62, _⟩ => ⟨S8x32x256, .i32⟩
  | .hbm, ⟨63, _⟩ => ⟨S8x32x256, .i32⟩
  | .hbm, ⟨64, _⟩ => ⟨S8x32x256, .i32⟩
  | .hbm, ⟨65, _⟩ => ⟨S8x32x256, .i1⟩
  | .hbm, ⟨66, _⟩ => ⟨S_, .f32⟩
  | .hbm, ⟨67, _⟩ => ⟨S_, .f32⟩
  | .hbm, ⟨68, _⟩ => ⟨S8x32x256, .f32⟩
  | .hbm, ⟨69, _⟩ => ⟨S8x32x256, .f32⟩
  | .hbm, ⟨70, _⟩ => ⟨S8x32x256, .f32⟩
  | .hbm, ⟨71, _⟩ => ⟨S4x1024x256, .i32⟩
  | .hbm, ⟨72, _⟩ => ⟨S4x1024x256, .i32⟩
  | .hbm, ⟨73, _⟩ => ⟨S4x1024x256, .i32⟩
  | .hbm, ⟨74, _⟩ => ⟨S_, .i32⟩
  | .hbm, ⟨75, _⟩ => ⟨S4x1024x256, .i32⟩
  | .hbm, ⟨76, _⟩ => ⟨S4x1024x256, .i32⟩
  | .hbm, ⟨77, _⟩ => ⟨S4x1024x256, .i32⟩
  | .hbm, ⟨78, _⟩ => ⟨S4x1024x256, .i1⟩
  | .hbm, ⟨79, _⟩ => ⟨S_, .f32⟩
  | .hbm, ⟨80, _⟩ => ⟨S_, .f32⟩
  | .hbm, ⟨81, _⟩ => ⟨S4x1024x256, .f32⟩
  | .hbm, ⟨82, _⟩ => ⟨S4x1024x256, .f32⟩
  | .hbm, ⟨83, _⟩ => ⟨S4x1024x256, .f32⟩
  | .hbm, ⟨84, _⟩ => ⟨S4x1024x256, .i32⟩
  | .hbm, ⟨85, _⟩ => ⟨S_, .i32⟩
  | .hbm, ⟨86, _⟩ => ⟨S4x1024x256, .i32⟩
  | .hbm, ⟨87, _⟩ => ⟨S4x1024x256, .i32⟩
  | .hbm, ⟨88, _⟩ => ⟨S4x1024x256, .i32⟩
  | .hbm, ⟨89, _⟩ => ⟨S_, .i32⟩
  | .hbm, ⟨90, _⟩ => ⟨S4x1024x256, .i32⟩
  | .hbm, ⟨91, _⟩ => ⟨S4x1024x256, .i1⟩
  | .hbm, ⟨92, _⟩ => ⟨S_, .f32⟩
  | .hbm, ⟨93, _⟩ => ⟨S_, .f32⟩
  | .hbm, ⟨94, _⟩ => ⟨S4x1024x256, .f32⟩
  | .hbm, ⟨95, _⟩ => ⟨S4x1024x256, .f32⟩
  | .hbm, ⟨96, _⟩ => ⟨S4x1024x256, .f32⟩
  | .hbm, ⟨97, _⟩ => ⟨S1024x256, .i32⟩
  | .hbm, ⟨98, _⟩ => ⟨S1024x256, .i32⟩
  | .hbm, ⟨99, _⟩ => ⟨S1024x256, .i1⟩
  | .hbm, ⟨100, _⟩ => ⟨S_, .f32⟩
  | .hbm, ⟨101, _⟩ => ⟨S_, .f32⟩
  | .hbm, ⟨102, _⟩ => ⟨S1024x256, .f32⟩
  | .hbm, ⟨103, _⟩ => ⟨S1024x256, .f32⟩
  | .hbm, ⟨104, _⟩ => ⟨S1024x256, .f32⟩
  | .hbm, ⟨105, _⟩ => ⟨S12x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S32x512, .f32⟩
  | .local _ .vmem, ⟨7, _⟩ => ⟨S32x512, .f32⟩
  | .local _ .vmem, ⟨8, _⟩ => ⟨S512x32, .f32⟩
  | .local _ .vmem, ⟨9, _⟩ => ⟨S8x32x256, .f32⟩
  | .local _ .vmem, ⟨10, _⟩ => ⟨S4x1024x256, .f32⟩
  | .local _ .vmem, ⟨11, _⟩ => ⟨S4x1024x256, .f32⟩
  | .local _ .vmem, ⟨12, _⟩ => ⟨S1024x256, .f32⟩
  | .local _ .vmem, ⟨13, _⟩ => ⟨S1x1024x64, .f32⟩
  | .local _ .vmem, ⟨14, _⟩ => ⟨S1x1024x64, .f32⟩
  | .local _ .vmem, ⟨15, _⟩ => ⟨S1024x32, .f32⟩
  | _, _ => ⟨S1x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst : Ref sig .tc := ⟨.hbm, 12, rfl⟩
abbrev main_call0_cst_1 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_cst_2 : Ref sig .tc := ⟨.hbm, 20, rfl⟩
abbrev main_call0_cst_3 : Ref sig .tc := ⟨.hbm, 21, rfl⟩
abbrev main_call0_call1_v0 : Ref sig .tc := ⟨.hbm, 22, rfl⟩
abbrev main_call0_call1_v1 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_cst_4 : Ref sig .tc := ⟨.hbm, 32, rfl⟩
abbrev main_call0_cst_5 : Ref sig .tc := ⟨.hbm, 33, rfl⟩
abbrev main_call0_call2_v0 : Ref sig .tc := ⟨.hbm, 34, rfl⟩
abbrev main_call0_call2_v1 : Ref sig .tc := ⟨.hbm, 35, rfl⟩
abbrev main_call0_v19 : Ref sig .tc := ⟨.hbm, 36, rfl⟩
abbrev main_call0_cst_6 : Ref sig .tc := ⟨.hbm, 37, rfl⟩
abbrev main_call0_call3_v0 : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_call0_v23 : Ref sig .tc := ⟨.hbm, 42, rfl⟩
abbrev main_call0_c_7 : Ref sig .tc := ⟨.hbm, 43, rfl⟩
abbrev main_call0_v24 : Ref sig .tc := ⟨.hbm, 44, rfl⟩
abbrev main_call0_v25 : Ref sig .tc := ⟨.hbm, 45, rfl⟩
abbrev main_call0_c_8 : Ref sig .tc := ⟨.hbm, 46, rfl⟩
abbrev main_call0_call4_v0 : Ref sig .tc := ⟨.hbm, 47, rfl⟩
abbrev main_call0_call4_v1 : Ref sig .tc := ⟨.hbm, 48, rfl⟩
abbrev main_call0_call4_v2 : Ref sig .tc := ⟨.hbm, 49, rfl⟩
abbrev main_call0_call4_v3 : Ref sig .tc := ⟨.hbm, 50, rfl⟩
abbrev main_call0_call4_v4 : Ref sig .tc := ⟨.hbm, 51, rfl⟩
abbrev main_call0_call4_v5 : Ref sig .tc := ⟨.hbm, 52, rfl⟩
abbrev main_call0_call4_v6 : Ref sig .tc := ⟨.hbm, 53, rfl⟩
abbrev main_call0_call4_v7 : Ref sig .tc := ⟨.hbm, 54, rfl⟩
abbrev main_call0_call4_v8 : Ref sig .tc := ⟨.hbm, 55, rfl⟩
abbrev main_call0_call4_c : Ref sig .tc := ⟨.hbm, 56, rfl⟩
abbrev main_call0_call4_v9 : Ref sig .tc := ⟨.hbm, 57, rfl⟩
abbrev main_call0_call4_v10 : Ref sig .tc := ⟨.hbm, 58, rfl⟩
abbrev main_call0_call4_v11 : Ref sig .tc := ⟨.hbm, 59, rfl⟩
abbrev main_call0_call4_c_0 : Ref sig .tc := ⟨.hbm, 60, rfl⟩
abbrev main_call0_call4_v12 : Ref sig .tc := ⟨.hbm, 61, rfl⟩
abbrev main_call0_call4_v13 : Ref sig .tc := ⟨.hbm, 62, rfl⟩
abbrev main_call0_v26 : Ref sig .tc := ⟨.hbm, 63, rfl⟩
abbrev main_call0_v27 : Ref sig .tc := ⟨.hbm, 64, rfl⟩
abbrev main_call0_v28 : Ref sig .tc := ⟨.hbm, 65, rfl⟩
abbrev main_call0_cst_9 : Ref sig .tc := ⟨.hbm, 66, rfl⟩
abbrev main_call0_cst_10 : Ref sig .tc := ⟨.hbm, 67, rfl⟩
abbrev main_call0_call5_v0 : Ref sig .tc := ⟨.hbm, 68, rfl⟩
abbrev main_call0_call5_v1 : Ref sig .tc := ⟨.hbm, 69, rfl⟩
abbrev main_call0_v29 : Ref sig .tc := ⟨.hbm, 70, rfl⟩
abbrev main_call0_v30 : Ref sig .tc := ⟨.hbm, 71, rfl⟩
abbrev main_call0_v31 : Ref sig .tc := ⟨.hbm, 72, rfl⟩
abbrev main_call0_v32 : Ref sig .tc := ⟨.hbm, 73, rfl⟩
abbrev main_call0_c_11 : Ref sig .tc := ⟨.hbm, 74, rfl⟩
abbrev main_call0_v33 : Ref sig .tc := ⟨.hbm, 75, rfl⟩
abbrev main_call0_v34 : Ref sig .tc := ⟨.hbm, 76, rfl⟩
abbrev main_call0_v35 : Ref sig .tc := ⟨.hbm, 77, rfl⟩
abbrev main_call0_v36 : Ref sig .tc := ⟨.hbm, 78, rfl⟩
abbrev main_call0_cst_12 : Ref sig .tc := ⟨.hbm, 79, rfl⟩
abbrev main_call0_cst_13 : Ref sig .tc := ⟨.hbm, 80, rfl⟩
abbrev main_call0_call6_v0 : Ref sig .tc := ⟨.hbm, 81, rfl⟩
abbrev main_call0_call6_v1 : Ref sig .tc := ⟨.hbm, 82, rfl⟩
abbrev main_call0_v37 : Ref sig .tc := ⟨.hbm, 83, rfl⟩
abbrev main_call0_v38 : Ref sig .tc := ⟨.hbm, 84, rfl⟩
abbrev main_call0_c_14 : Ref sig .tc := ⟨.hbm, 85, rfl⟩
abbrev main_call0_v39 : Ref sig .tc := ⟨.hbm, 86, rfl⟩
abbrev main_call0_v40 : Ref sig .tc := ⟨.hbm, 87, rfl⟩
abbrev main_call0_v41 : Ref sig .tc := ⟨.hbm, 88, rfl⟩
abbrev main_call0_c_15 : Ref sig .tc := ⟨.hbm, 89, rfl⟩
abbrev main_call0_v42 : Ref sig .tc := ⟨.hbm, 90, rfl⟩
abbrev main_call0_v43 : Ref sig .tc := ⟨.hbm, 91, rfl⟩
abbrev main_call0_cst_16 : Ref sig .tc := ⟨.hbm, 92, rfl⟩
abbrev main_call0_cst_17 : Ref sig .tc := ⟨.hbm, 93, rfl⟩
abbrev main_call0_call7_v0 : Ref sig .tc := ⟨.hbm, 94, rfl⟩
abbrev main_call0_call7_v1 : Ref sig .tc := ⟨.hbm, 95, rfl⟩
abbrev main_call0_v44 : Ref sig .tc := ⟨.hbm, 96, rfl⟩
abbrev main_call0_v45 : Ref sig .tc := ⟨.hbm, 97, rfl⟩
abbrev main_call0_v46 : Ref sig .tc := ⟨.hbm, 98, rfl⟩
abbrev main_call0_v47 : Ref sig .tc := ⟨.hbm, 99, rfl⟩
abbrev main_call0_cst_18 : Ref sig .tc := ⟨.hbm, 100, rfl⟩
abbrev main_call0_cst_19 : Ref sig .tc := ⟨.hbm, 101, rfl⟩
abbrev main_call0_call8_v0 : Ref sig .tc := ⟨.hbm, 102, rfl⟩
abbrev main_call0_call8_v1 : Ref sig .tc := ⟨.hbm, 103, rfl⟩
abbrev main_call0_v48 : Ref sig .tc := ⟨.hbm, 104, rfl⟩
abbrev main_v0 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![12, 2], ![false, false]⟩

def k0_off1 (i : grid0.Coords) : Fin 3 → Nat :=
  let c0_13 : Index := 0#32
  let c4_i32 : BitVec 32 := 4#32
  let arg1 : BitVec 32 := BitVec.ofNat 32 (i 1).val
  let v16 : BitVec 32 := Scalar.muli c4_i32 arg1
  let c4_i32_9 : BitVec 32 := 4#32
  let v17 : BitVec 32 := Scalar.addi v16 c4_i32_9
  let c1_i32_10 : BitVec 32 := 1#32
  let v18 : BitVec 32 := Scalar.subi v17 c1_i32_10
  let c256_i32 : BitVec 32 := 256#32
  let v21 : BitVec 32 := Scalar.muli v18 c256_i32
  let v22 : Index := Scalar.indexCast v21
  let c0_14 : Index := 0#32
  ![0, v22.toNat, 0]
def k0_off2 (i : grid0.Coords) (c2_i32_28 : BitVec 32) : Fin 3 → Nat :=
  let c4_i32_27 : BitVec 32 := 4#32
  let arg1 : BitVec 32 := BitVec.ofNat 32 (i 1).val
  let v45 : BitVec 32 := Scalar.muli c4_i32_27 arg1
  let v46 : BitVec 32 := Scalar.addi v45 c2_i32_28
  let v47 : Index := Scalar.indexCast v46
  let c0_29 : Index := 0#32
  let c0_30 : Index := 0#32
  ![v47.toNat, 0, 0]
def k0_off3 (i : grid0.Coords) (c2_i32 : BitVec 32) : Fin 3 → Nat :=
  let c0_33 : Index := 0#32
  let c4_i32_21 : BitVec 32 := 4#32
  let arg1 : BitVec 32 := BitVec.ofNat 32 (i 1).val
  let v39 : BitVec 32 := Scalar.muli c4_i32_21 arg1
  let v40 : BitVec 32 := Scalar.addi v39 c2_i32
  let c256_i32_32 : BitVec 32 := 256#32
  let v53 : BitVec 32 := Scalar.muli v40 c256_i32_32
  let v54 : Index := Scalar.indexCast v53
  let c0_34 : Index := 0#32
  ![0, v54.toNat, 0]
def k0_off4 (i : grid0.Coords) : Fin 3 → Nat :=
  let c4_i32_84 : BitVec 32 := 4#32
  let arg1 : BitVec 32 := BitVec.ofNat 32 (i 1).val
  let v141 : BitVec 32 := Scalar.muli c4_i32_84 arg1
  let c1_i32_85 : BitVec 32 := 1#32
  let v142 : BitVec 32 := Scalar.subi v141 c1_i32_85
  let c0_i32_86 : BitVec 32 := 0#32
  let v143 : BitVec 32 := Scalar.maxsi v142 c0_i32_86
  let v144 : Index := Scalar.indexCast v143
  let c0_87 : Index := 0#32
  let c0_88 : Index := 0#32
  ![v144.toNat, 0, 0]
def k0_off5 (i : grid0.Coords) : Fin 3 → Nat :=
  let c0_96 : Index := 0#32
  let c4_i32_84 : BitVec 32 := 4#32
  let arg1 : BitVec 32 := BitVec.ofNat 32 (i 1).val
  let v141 : BitVec 32 := Scalar.muli c4_i32_84 arg1
  let c1_i32_85 : BitVec 32 := 1#32
  let v142 : BitVec 32 := Scalar.subi v141 c1_i32_85
  let c0_i32_86 : BitVec 32 := 0#32
  let v143 : BitVec 32 := Scalar.maxsi v142 c0_i32_86
  let c256_i32_95 : BitVec 32 := 256#32
  let v155 : BitVec 32 := Scalar.muli v143 c256_i32_95
  let v156 : Index := Scalar.indexCast v155
  let c0_97 : Index := 0#32
  ![0, v156.toNat, 0]
@[reducible] def k0_t1_loop (i : grid0.Coords) : Scf.Loop 32 :=
  let c0_i32_107 : BitVec 32 := 0#32
  let c4_i32_104 : BitVec 32 := 4#32
  let arg1 : BitVec 32 := BitVec.ofNat 32 (i 1).val
  let v175 : BitVec 32 := Scalar.muli c4_i32_104 arg1
  let c1_i32_105 : BitVec 32 := 1#32
  let v176 : BitVec 32 := Scalar.subi v175 c1_i32_105
  let c0_i32_106 : BitVec 32 := 0#32
  let v177 : BitVec 32 := Scalar.maxsi v176 c0_i32_106
  let v178 : BitVec 32 := Scalar.subi v177 c0_i32_107
  let c1_i32_108 : BitVec 32 := 1#32
  let v180 : BitVec 32 := Scalar.divsi v178 c1_i32_108
  let v181 : BitVec 32 := Scalar.muli v180 c1_i32_108
  let v182 : BitVec 32 := Scalar.addi c0_i32_107 v181
  let c1_i32_109 : BitVec 32 := 1#32
  ⟨c0_i32_107, v182, c1_i32_109⟩
def k0_off6 (i : grid0.Coords) (k0_t1 : Fin (k0_t1_loop i).trips) : Fin 3 → Nat :=
  let c0_i32_107 : BitVec 32 := 0#32
  let c1_i32_109 : BitVec 32 := 1#32
  let arg14 : BitVec 32 := Scf.iv c0_i32_107 c1_i32_109 k0_t1
  let v190 : Index := Scalar.indexCast arg14
  let c0_114 : Index := 0#32
  let c0_115 : Index := 0#32
  ![v190.toNat, 0, 0]
def k0_off7 (i : grid0.Coords) (k0_t1 : Fin (k0_t1_loop i).trips) : Fin 3 → Nat :=
  let c0_118 : Index := 0#32
  let c0_i32_107 : BitVec 32 := 0#32
  let c1_i32_109 : BitVec 32 := 1#32
  let arg14 : BitVec 32 := Scf.iv c0_i32_107 c1_i32_109 k0_t1
  let c256_i32_117 : BitVec 32 := 256#32
  let v194 : BitVec 32 := Scalar.muli arg14 c256_i32_117
  let v195 : Index := Scalar.indexCast v194
  let c0_119 : Index := 0#32
  ![0, v195.toNat, 0]
@[reducible] def k0_t2_loop (i : grid0.Coords) : Scf.Loop 32 :=
  let c0_i32_107 : BitVec 32 := 0#32
  let c4_i32_104 : BitVec 32 := 4#32
  let arg1 : BitVec 32 := BitVec.ofNat 32 (i 1).val
  let v175 : BitVec 32 := Scalar.muli c4_i32_104 arg1
  let c1_i32_105 : BitVec 32 := 1#32
  let v176 : BitVec 32 := Scalar.subi v175 c1_i32_105
  let c0_i32_106 : BitVec 32 := 0#32
  let v177 : BitVec 32 := Scalar.maxsi v176 c0_i32_106
  let v178 : BitVec 32 := Scalar.subi v177 c0_i32_107
  let c1_i32_108 : BitVec 32 := 1#32
  let v180 : BitVec 32 := Scalar.divsi v178 c1_i32_108
  let v181 : BitVec 32 := Scalar.muli v180 c1_i32_108
  let v182 : BitVec 32 := Scalar.addi c0_i32_107 v181
  let v179 : BitVec 32 := Scalar.addi c0_i32_107 v178
  let c1_i32_110 : BitVec 32 := 1#32
  ⟨v182, v179, c1_i32_110⟩
def k0_off8 (i : grid0.Coords) (k0_t2 : Fin (k0_t2_loop i).trips) : Fin 3 → Nat :=
  let c0_i32_107 : BitVec 32 := 0#32
  let c4_i32_104 : BitVec 32 := 4#32
  let arg1 : BitVec 32 := BitVec.ofNat 32 (i 1).val
  let v175 : BitVec 32 := Scalar.muli c4_i32_104 arg1
  let c1_i32_105 : BitVec 32 := 1#32
  let v176 : BitVec 32 := Scalar.subi v175 c1_i32_105
  let c0_i32_106 : BitVec 32 := 0#32
  let v177 : BitVec 32 := Scalar.maxsi v176 c0_i32_106
  let v178 : BitVec 32 := Scalar.subi v177 c0_i32_107
  let c1_i32_108 : BitVec 32 := 1#32
  let v180 : BitVec 32 := Scalar.divsi v178 c1_i32_108
  let v181 : BitVec 32 := Scalar.muli v180 c1_i32_108
  let v182 : BitVec 32 := Scalar.addi c0_i32_107 v181
  let c1_i32_110 : BitVec 32 := 1#32
  let arg14 : BitVec 32 := Scf.iv v182 c1_i32_110 k0_t2
  let v190 : Index := Scalar.indexCast arg14
  let c0_114 : Index := 0#32
  let c0_115 : Index := 0#32
  ![v190.toNat, 0, 0]
def k0_off9 (i : grid0.Coords) (k0_t2 : Fin (k0_t2_loop i).trips) : Fin 3 → Nat :=
  let c0_118 : Index := 0#32
  let c0_i32_107 : BitVec 32 := 0#32
  let c4_i32_104 : BitVec 32 := 4#32
  let arg1 : BitVec 32 := BitVec.ofNat 32 (i 1).val
  let v175 : BitVec 32 := Scalar.muli c4_i32_104 arg1
  let c1_i32_105 : BitVec 32 := 1#32
  let v176 : BitVec 32 := Scalar.subi v175 c1_i32_105
  let c0_i32_106 : BitVec 32 := 0#32
  let v177 : BitVec 32 := Scalar.maxsi v176 c0_i32_106
  let v178 : BitVec 32 := Scalar.subi v177 c0_i32_107
  let c1_i32_108 : BitVec 32 := 1#32
  let v180 : BitVec 32 := Scalar.divsi v178 c1_i32_108
  let v181 : BitVec 32 := Scalar.muli v180 c1_i32_108
  let v182 : BitVec 32 := Scalar.addi c0_i32_107 v181
  let c1_i32_110 : BitVec 32 := 1#32
  let arg14 : BitVec 32 := Scf.iv v182 c1_i32_110 k0_t2
  let c256_i32_117 : BitVec 32 := 256#32
  let v194 : BitVec 32 := Scalar.muli arg14 c256_i32_117
  let v195 : Index := Scalar.indexCast v194
  let c0_119 : Index := 0#32
  ![0, v195.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x12x2048x64 : Shape := ⟨4, ![1, 12, 2048, 64]⟩
abbrev S_ : Shape := ⟨0, ![]⟩
abbrev S1x12x32x64x64 : Shape := ⟨5, ![1, 12, 32, 64, 64]⟩
abbrev S1x12x32x64 : Shape := ⟨4, ![1, 12, 32, 64]⟩
abbrev S1x12x2048x32 : Shape := ⟨4, ![1, 12, 2048, 32]⟩
abbrev S2048 : Shape := ⟨1, ![2048]⟩
abbrev S32 : Shape := ⟨1, ![32]⟩
abbrev S1x32 : Shape := ⟨2, ![1, 32]⟩
abbrev S2048x1 : Shape := ⟨2, ![2048, 1]⟩
abbrev S2048x32 : Shape := ⟨2, ![2048, 32]⟩
abbrev S1x1x2048x32 : Shape := ⟨4, ![1, 1, 2048, 32]⟩
abbrev S1x12x2048x16 : Shape := ⟨4, ![1, 12, 2048, 16]⟩
abbrev S1x12x2048x16x1 : Shape := ⟨5, ![1, 12, 2048, 16, 1]⟩
abbrev S1x1x1x1x32 : Shape := ⟨5, ![1, 1, 1, 1, 32]⟩
abbrev S1x12x2048x16x32 : Shape := ⟨5, ![1, 12, 2048, 16, 32]⟩
abbrev S1 : Shape := ⟨1, ![1]⟩
abbrev S1x1 : Shape := ⟨2, ![1, 1]⟩
abbrev S1x12x2048x2048 : Shape := ⟨4, ![1, 12, 2048, 2048]⟩
abbrev S1x2048 : Shape := ⟨2, ![1, 2048]⟩
abbrev S2048x2048 : Shape := ⟨2, ![2048, 2048]⟩
abbrev S1x1x2048x2048 : Shape := ⟨4, ![1, 1, 2048, 2048]⟩
abbrev S1x12x2048 : Shape := ⟨3, ![1, 12, 2048]⟩
abbrev S1x12x2048x1 : Shape := ⟨4, ![1, 12, 2048, 1]⟩
abbrev S12x2048x64 : Shape := ⟨3, ![12, 2048, 64]⟩

abbrev nBuf : Space → Nat
  | .hbm => 130
  | .vmem => 0
  | .smem => 0
  | _ => 0

abbrev hbmTy0_0 (i : Nat) : BufTy := match i % 128 with
  | 0 => ⟨S1x12x2048x64, .f32⟩
  | 1 => ⟨S1x12x2048x64, .f32⟩
  | 2 => ⟨S1x12x2048x64, .f32⟩
  | 3 => ⟨S_, .f32⟩
  | 4 => ⟨S_, .f32⟩
  | 5 => ⟨S_, .f32⟩
  | 6 => ⟨S_, .f32⟩
  | 7 => ⟨S1x12x32x64x64, .f32⟩
  | 8 => ⟨S_, .f32⟩
  | 9 => ⟨S1x12x32x64, .f32⟩
  | 10 => ⟨S_, .f32⟩
  | 11 => ⟨S1x12x32x64, .f32⟩
  | 12 => ⟨S1x12x32x64, .f32⟩
  | 13 => ⟨S1x12x2048x32, .f32⟩
  | 14 => ⟨S1x12x2048x32, .f32⟩
  | 15 => ⟨S1x12x2048x32, .f32⟩
  | 16 => ⟨S2048, .i32⟩
  | 17 => ⟨S32, .i32⟩
  | 18 => ⟨S_, .i32⟩
  | 19 => ⟨S32, .i32⟩
  | 20 => ⟨S32, .i32⟩
  | 21 => ⟨S1x32, .i32⟩
  | 22 => ⟨S2048x1, .i32⟩
  | 23 => ⟨S2048x32, .i32⟩
  | 24 => ⟨S2048x32, .i32⟩
  | 25 => ⟨S2048x32, .i1⟩
  | 26 => ⟨S1x1x2048x32, .i1⟩
  | 27 => ⟨S_, .f32⟩
  | 28 => ⟨S1x12x2048x32, .i1⟩
  | 29 => ⟨S1x12x2048x32, .f32⟩
  | 30 => ⟨S1x12x2048x32, .f32⟩
  | 31 => ⟨S1x12x2048x16, .f32⟩
  | 32 => ⟨S1x12x2048x16, .i32⟩
  | 33 => ⟨S1x12x2048x16x1, .i32⟩
  | 34 => ⟨S1x1x1x1x32, .i32⟩
  | 35 => ⟨S1x12x2048x16x32, .i32⟩
  | 36 => ⟨S1x12x2048x16x32, .i32⟩
  | 37 => ⟨S1x12x2048x16x32, .i1⟩
  | 38 => ⟨S1x12x2048x16x32, .f32⟩
  | 39 => ⟨S_, .f32⟩
  | 40 => ⟨S1x12x2048x32, .f32⟩
  | 41 => ⟨S_, .f32⟩
  | 42 => ⟨S1x12x2048x32, .f32⟩
  | 43 => ⟨S1x12x2048x32, .i1⟩
  | 44 => ⟨S_, .i32⟩
  | 45 => ⟨S_, .i32⟩
  | 46 => ⟨S2048, .i32⟩
  | 47 => ⟨S2048, .i32⟩
  | 48 => ⟨S2048, .i32⟩
  | 49 => ⟨S_, .i32⟩
  | 50 => ⟨S2048, .i32⟩
  | 51 => ⟨S2048, .i1⟩
  | 52 => ⟨S2048, .i32⟩
  | 53 => ⟨S2048, .i32⟩
  | 54 => ⟨S_, .i32⟩
  | 55 => ⟨S2048, .i32⟩
  | 56 => ⟨S2048, .i1⟩
  | 57 => ⟨S2048, .i1⟩
  | 58 => ⟨S_, .i32⟩
  | 59 => ⟨S2048, .i32⟩
  | 60 => ⟨S2048, .i32⟩
  | 61 => ⟨S2048, .i32⟩
  | 62 => ⟨S_, .i32⟩
  | 63 => ⟨S2048, .i32⟩
  | 64 => ⟨S2048, .i1⟩
  | 65 => ⟨S_, .i32⟩
  | 66 => ⟨S2048, .i32⟩
  | 67 => ⟨S2048, .i32⟩
  | 68 => ⟨S2048, .i32⟩
  | 69 => ⟨S2048x1, .i32⟩
  | 70 => ⟨S1, .i32⟩
  | 71 => ⟨S_, .i32⟩
  | 72 => ⟨S2048x1, .i32⟩
  | 73 => ⟨S2048x1, .i1⟩
  | 74 => ⟨S1x1, .i32⟩
  | 75 => ⟨S2048x1, .i32⟩
  | 76 => ⟨S2048x1, .i1⟩
  | 77 => ⟨S2048x1, .i1⟩
  | 78 => ⟨S_, .i1⟩
  | 79 => ⟨S2048, .i1⟩
  | 80 => ⟨S1x12x2048x2048, .i1⟩
  | 81 => ⟨S1x12x2048x2048, .i1⟩
  | 82 => ⟨S_, .i1⟩
  | 83 => ⟨S1x12x2048x2048, .i1⟩
  | 84 => ⟨S1x12x2048x2048, .i1⟩
  | 85 => ⟨S1x2048, .i32⟩
  | 86 => ⟨S2048x1, .i32⟩
  | 87 => ⟨S2048x2048, .i32⟩
  | 88 => ⟨S2048x2048, .i32⟩
  | 89 => ⟨S2048x2048, .i1⟩
  | 90 => ⟨S2048x1, .i32⟩
  | 91 => ⟨S1x2048, .i32⟩
  | 92 => ⟨S2048x2048, .i32⟩
  | 93 => ⟨S2048x2048, .i32⟩
  | 94 => ⟨S2048x2048, .i32⟩
  | 95 => ⟨S_, .i32⟩
  | 96 => ⟨S2048x2048, .i32⟩
  | 97 => ⟨S2048x2048, .i1⟩
  | 98 => ⟨S_, .i32⟩
  | 99 => ⟨S2048x2048, .i32⟩
  | 100 => ⟨S2048x2048, .i1⟩
  | 101 => ⟨S2048x2048, .i1⟩
  | 102 => ⟨S1x1x2048x2048, .i1⟩
  | 103 => ⟨S1x12x2048x2048, .i1⟩
  | 104 => ⟨S1x12x2048x2048, .i1⟩
  | 105 => ⟨S1x1x2048x2048, .i1⟩
  | 106 => ⟨S1x12x2048x2048, .i1⟩
  | 107 => ⟨S1x12x2048x2048, .i1⟩
  | 108 => ⟨S1x12x2048x2048, .f32⟩
  | 109 => ⟨S1x12x2048x2048, .f32⟩
  | 110 => ⟨S1x12x2048x2048, .f32⟩
  | 111 => ⟨S_, .f32⟩
  | 112 => ⟨S1x12x2048x2048, .f32⟩
  | 113 => ⟨S1x12x2048x2048, .f32⟩
  | 114 => ⟨S_, .f32⟩
  | 115 => ⟨S1x12x2048, .f32⟩
  | 116 => ⟨S_, .f32⟩
  | 117 => ⟨S1x12x2048, .f32⟩
  | 118 => ⟨S1x12x2048, .f32⟩
  | 119 => ⟨S1x12x2048x1, .f32⟩
  | 120 => ⟨S1x12x2048x2048, .f32⟩
  | 121 => ⟨S1x12x2048x2048, .f32⟩
  | 122 => ⟨S1x12x2048x2048, .f32⟩
  | 123 => ⟨S_, .f32⟩
  | 124 => ⟨S1x12x2048, .f32⟩
  | 125 => ⟨S1x12x2048x1, .f32⟩
  | 126 => ⟨S1x12x2048x2048, .f32⟩
  | 127 => ⟨S1x12x2048x2048, .f32⟩
  | _ => ⟨S1x12x2048x64, .f32⟩

abbrev hbmTy0_1 (i : Nat) : BufTy := match i % 128 with
  | 0 => ⟨S1x12x2048x64, .f32⟩
  | 1 => ⟨S12x2048x64, .f32⟩
  | _ => ⟨S1x12x2048x64, .f32⟩

abbrev hbmTy (i : Nat) : BufTy := match i / 128 with
  | 0 => hbmTy0_0 i
  | 1 => hbmTy0_1 i
  | _ => ⟨S1x12x2048x64, .f32⟩

abbrev bufTy : (tb : Table) → Fin (tcTables nBuf tb) → BufTy
  | .hbm, ⟨i, _⟩ => hbmTy i
  | _, _ => ⟨S1x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v19 : Ref sig .tc := ⟨.hbm, 30, rfl⟩
abbrev main_values : Ref sig .tc := ⟨.hbm, 31, rfl⟩
abbrev main_indices : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_c : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_0 : Ref sig .tc := ⟨.hbm, 58, rfl⟩
abbrev main_call2_v12 : Ref sig .tc := ⟨.hbm, 59, rfl⟩
abbrev main_call2_v13 : Ref sig .tc := ⟨.hbm, 60, rfl⟩
abbrev main_v24 : Ref sig .tc := ⟨.hbm, 61, rfl⟩
abbrev main_call3_c : Ref sig .tc := ⟨.hbm, 62, rfl⟩
abbrev main_call3_v0 : Ref sig .tc := ⟨.hbm, 63, rfl⟩
abbrev main_call3_v1 : Ref sig .tc := ⟨.hbm, 64, rfl⟩
abbrev main_call3_c_0 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_c_1 : Ref sig .tc := ⟨.hbm, 70, rfl⟩
abbrev main_call3_c_2 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_3 : Ref sig .tc := ⟨.hbm, 78, rfl⟩
abbrev main_call3_v12 : Ref sig .tc := ⟨.hbm, 79, rfl⟩
abbrev main_call3_v13 : Ref sig .tc := ⟨.hbm, 80, rfl⟩
abbrev main_call3_v14 : Ref sig .tc := ⟨.hbm, 81, rfl⟩
abbrev main_call3_c_4 : Ref sig .tc := ⟨.hbm, 82, rfl⟩
abbrev main_call3_v15 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_c_7 : Ref sig .tc := ⟨.hbm, 95, rfl⟩
abbrev main_v36 : Ref sig .tc := ⟨.hbm, 96, rfl⟩
abbrev main_v37 : Ref sig .tc := ⟨.hbm, 97, rfl⟩
abbrev main_c_8 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_cst_9 : Ref sig .tc := ⟨.hbm, 111, rfl⟩
abbrev main_call4_v0 : Ref sig .tc := ⟨.hbm, 112, rfl⟩
abbrev main_v50 : Ref sig .tc := ⟨.hbm, 113, rfl⟩
abbrev main_cst_10 : Ref sig .tc := ⟨.hbm, 114, rfl⟩
abbrev main_v51 : Ref sig .tc := ⟨.hbm, 115, rfl⟩
abbrev main_cst_11 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_cst_12 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩

abbrev nD : Nat := 1
abbrev τ : Topo := Topo.v7x

variable {F : FTy → Type} [FloatOps F]
-- ==== Proof.Spec.lean ====
module

public import Idealize.ShloMosaic.Lib.Pointwise

/-! What both programs compute, for one head: attention of 2048 queries over 2048 keys, restricted to
the keys of the sixteen best blocks of 64 keys and to a causal window of 256 keys. -/

@[expose] public section

noncomputable section

open scoped Classical

namespace Cert.Spec

open Idealize.ShloMosaic

/-- The rows of one head: queries, keys or values. -/
abbrev Mat : Type := Fin 2048 → Fin 64 → EReal

/-- Position `64 b + s`: row `s` of block `b`. -/
def at64 (b : Fin 32) (s : Fin 64) : Fin 2048 := ⟨64 * b.val + s.val, by omega⟩

/-- The block of position `j`. -/
def blockOf (j : Fin 2048) : Fin 32 := ⟨j.val / 64, by omega⟩

/-- The scaled product of query `i` and key `j`. -/
def att (q k : Mat) (i j : Fin 2048) : EReal := ∑ d : Fin 64, q i d * ((1 / 8 : ℝ) : EReal) * k j d

/-- Coordinate `d` of the mean key of block `b`. -/
def mean (k : Mat) (b : Fin 32) (d : Fin 64) : EReal := Ideal.div (∑ s : Fin 64, k (at64 b s) d) ((64 : ℝ) : EReal)

/-- The product of query `i` and the mean key of block `b`. -/
def score (q k : Mat) (i : Fin 2048) (b : Fin 32) : EReal := ∑ d : Fin 64, q i d * mean k b d

/-- The block scores of query `i`, at minus infinity where the block begins after the query. -/
def visible (q k : Mat) (i : Fin 2048) (b : Fin 32) : EReal := if 64 * b.val ≤ i.val then score q k i b else ⊥

/-- Position `a` comes before position `b`: a greater value, or an equal one at a lower position. -/
def before {n : Nat} (x : Fin n → EReal) (a b : Fin n) : Prop := x b < x a ∨ (x a = x b ∧ a < b)

/-- How many positions come before `b`. -/
def rank {n : Nat} (x : Fin n → EReal) (b : Fin n) : Nat := (Finset.univ.filter fun j => before x j b).card

/-- Query `i` attends to key `j`. -/
def seen (q k : Mat) (i j : Fin 2048) : Prop :=
  j.val ≤ i.val ∧ (rank (visible q k i) (blockOf j) < 16 ∨ i.val < j.val + 256)

/-- The weight of key `j` for query `i`, not yet divided by their sum. -/
def weight (q k : Mat) (i j : Fin 2048) : EReal := if seen q k i j then Ideal.exp (att q k i j) else 0

/-- The attention's result. -/
def out (q k v : Mat) (i : Fin 2048) (e : Fin 64) : EReal :=
  Ideal.div (∑ j : Fin 2048, weight q k i j * v j e) (∑ j : Fin 2048, weight q k i j)

end Cert.Spec

end
-- ==== Proof.Rank.lean ====
module

public import proofs.«01_k».proof.Proof.Spec
public import Idealize.ShloMosaic.Lib.SortFacts

/-! Ranks: the stable descending sort puts at its first places exactly the positions of small rank, and
the signed count of won comparisons is the rank less the position. -/

@[expose] public section

noncomputable section

open scoped Classical

namespace Cert.Spec

open Idealize.ShloMosaic

/-- Of two different positions, one comes before the other. -/
theorem before_total {n : Nat} (x : Fin n → EReal) {a b : Fin n} (h : a ≠ b) : before x a b ∨ before x b a := by
  unfold before
  rcases lt_trichotomy (x a) (x b) with h' | h' | h'
  · exact Or.inr (Or.inl h')
  · rcases lt_or_gt_of_ne h with h'' | h''
    · exact Or.inl (Or.inr ⟨h', h''⟩)
    · exact Or.inr (Or.inr ⟨h'.symm, h''⟩)
  · exact Or.inl (Or.inl h')

/-- Two positions do not each come before the other. -/
theorem before_asymm {n : Nat} (x : Fin n → EReal) {a b : Fin n} (h : before x a b) : ¬ before x b a := by
  unfold before at *
  rintro (h' | ⟨h', h''⟩) <;> rcases h with h | ⟨h, h3⟩
  · exact lt_asymm h h'
  · exact absurd h' (by rw [h]; exact lt_irrefl _)
  · exact absurd h (by rw [h']; exact lt_irrefl _)
  · exact lt_asymm h3 h''

/-- Not coming before is transitive. -/
theorem not_before_trans {n : Nat} (x : Fin n → EReal) {a b c : Fin n} (h : ¬ before x a b) (h' : ¬ before x b c) :
    ¬ before x a c := by
  unfold before at *
  push Not at *
  refine ⟨h.1.trans h'.1, fun e => ?_⟩
  have h1 : x a = x b := le_antisymm h.1 (e ▸ h'.1)
  have h2 : x b = x c := h1 ▸ e
  exact (h'.2 h2).trans (h.2 h1)

/-- The stable sort by greater value alone is the sort by `before`. -/
theorem stableSort_before {n : Nat} (x : Fin n → EReal) (l : List (Fin n)) (hl : l.Pairwise (· < ·)) :
    stableSort (fun a b => decide (x b < x a)) l = stableSort (fun a b => decide (before x a b)) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    refine decide_eq_decide.mpr ⟨fun h => Or.inl h, fun h => h.elim id fun h => absurd h.2 (lt_asymm hab)⟩

/-- Sorting by greater value alone puts the same position at each place as sorting by `before`. -/
theorem sortedFrom_before {n : Nat} (x : Fin n → EReal) (k : Fin n) :
    sortedFrom (fun a b => decide (x b < x a)) k = sortedFrom (fun a b => decide (before x a b)) k := by
  have h : sortPositions n (fun a b => decide (x b < x a)) = sortPositions n (fun a b => decide (before x a b)) :=
    stableSort_before x _ (List.pairwise_lt_finRange n)
  unfold sortedFrom
  rw [List.get_of_eq h]
  rfl

/-- The position at place `k` of the sort has rank `k`. -/
theorem rank_sortedFrom {n : Nat} (x : Fin n → EReal) (k : Fin n) :
    rank x (sortedFrom (fun a b => decide (x b < x a)) k) = k.val := by
  rw [sortedFrom_before]
  set π := sortedFrom (fun a b => decide (before x a b)) with hπ
  have hlt : ∀ i j : Fin n, i < j → before x (π i) (π j) := fun i j hij => by
    have h := sortedFrom_noInversion (fun a b => decide (before x a b)) (fun a b => decide (before x a b))
      (fun a b h => by simpa using before_asymm x (by simpa using h)) (fun _ _ h => h)
      (fun a b c h h' => by simpa using not_before_trans x (by simpa using h) (by simpa using h')) i j hij
    rw [← hπ] at h
    rcases before_total x (fun e => hij.ne (sortedFrom_injective _ e) : π i ≠ π j) with h' | h'
    · exact h'
    · exact absurd h' (by simpa using h)
  have hset : (Finset.univ.filter fun j => before x j (π k)) = (Finset.univ.filter fun i : Fin n => i < k).image π := by
    ext j
    simp only [Finset.mem_filter, Finset.mem_univ, true_and, Finset.mem_image]
    obtain ⟨i, rfl⟩ := sortedFrom_surjective (fun a b => decide (before x a b)) j
    rw [← hπ]
    constructor
    · intro h
      refine ⟨i, ?_, rfl⟩
      by_contra hik
      rcases lt_or_eq_of_le (not_lt.mp hik) with h' | h'
      · exact before_asymm x h (hlt k i h')
      · exact before_asymm x h (h' ▸ h)
    · rintro ⟨i', hi', he⟩
      rw [← he]
      exact hlt i' k hi'
  unfold rank
  rw [hset, Finset.card_image_of_injective _ (sortedFrom_injective _)]
  have : (Finset.univ.filter fun i : Fin n => i < k) = Finset.Iio k := by ext; simp
  rw [this, Fin.card_Iio]

/-- A position is among the first `c` places of the sort exactly when its rank is below `c`. -/
theorem exists_place_iff {n : Nat} (x : Fin n → EReal) (b : Fin n) (c : Nat) :
    (∃ k : Fin n, k.val < c ∧ sortedFrom (fun a b => decide (x b < x a)) k = b) ↔ rank x b < c := by
  constructor
  · rintro ⟨k, hk, rfl⟩
    rw [rank_sortedFrom]; exact hk
  · intro h
    obtain ⟨k, rfl⟩ := sortedFrom_surjective (fun a b => decide (x b < x a)) b
    exact ⟨k, by rwa [rank_sortedFrom] at h, rfl⟩

/-- Values in the same order have the same ranks. -/
theorem rank_congr {n : Nat} (x y : Fin n → EReal) (h : ∀ a b, x a < x b ↔ y a < y b) (b : Fin n) : rank x b = rank y b := by
  unfold rank
  refine congrArg Finset.card (Finset.filter_congr fun j _ => ?_)
  have he : x j = x b ↔ y j = y b := by
    constructor <;> intro e <;> refine le_antisymm (not_lt.mp fun h' => ?_) (not_lt.mp fun h' => ?_)
    · exact absurd ((h _ _).mpr h') (by rw [e]; exact lt_irrefl _)
    · exact absurd ((h _ _).mpr h') (by rw [e]; exact lt_irrefl _)
    · exact absurd ((h _ _).mp h') (by rw [e]; exact lt_irrefl _)
    · exact absurd ((h _ _).mp h') (by rw [e]; exact lt_irrefl _)
  unfold before
  rw [h, he]

/-- Where at most the first `c` positions are above minus infinity, each of them has rank below `c`. -/
theorem rank_lt_of_few {n : Nat} (x : Fin n → EReal) (b : Fin n) (c : Nat) (hx : ∀ j : Fin n, c ≤ j.val → x j = ⊥)
    (hb : x b ≠ ⊥) : rank x b < c := by
  have hbc : b.val < c := by
    by_contra h
    exact hb (hx b (not_lt.mp h))
  have hsub : (Finset.univ.filter fun j => before x j b) ⊆ (Finset.univ.filter fun j : Fin n => j.val < c).erase b := by
    intro j hj
    simp only [Finset.mem_filter, Finset.mem_univ, true_and, Finset.mem_erase] at hj ⊢
    refine ⟨fun e => before_asymm x hj (e ▸ hj), ?_⟩
    by_contra h
    have hj' := hx j (not_lt.mp h)
    rcases hj with h' | ⟨h', _⟩
    · rw [hj'] at h'; exact absurd h' not_lt_bot
    · exact hb (h' ▸ hj')
  have hmem : b ∈ (Finset.univ.filter fun j : Fin n => j.val < c) := by simpa using hbc
  have h1 := Finset.card_le_card hsub
  rw [Finset.card_erase_of_mem hmem] at h1
  have h2 : (Finset.univ.filter fun j : Fin n => j.val < c).card ≤ c := by
    calc _ ≤ (Finset.range c).card := Finset.card_le_card_of_injOn (fun j => j.val)
          (fun j hj => by simpa using hj) (fun a _ b _ h => Fin.ext h)
      _ = c := Finset.card_range c
  unfold rank
  omega

/-- The comparisons won by later positions against `u`, less those won by `u` against earlier positions, are the
    rank of `u` less `u`. -/
theorem signed_wins {n : Nat} (x : Fin n → EReal) (u : Fin n) :
    (∑ w : Fin n, ∑ v : Fin n, if w < v then
        (if x w < x v then (1 : ℤ) else 0) * (if u = w then 1 else if u = v then -1 else 0) else 0)
      = (rank x u : ℤ) - (u.val : ℤ) := by
  have h1 : ∀ w v : Fin n, (if w < v then
        (if x w < x v then (1 : ℤ) else 0) * (if u = w then 1 else if u = v then -1 else 0) else 0)
      = (if w = u then (if u < v ∧ x u < x v then 1 else 0) else 0)
        - (if v = u then (if w < u ∧ x w < x u then 1 else 0) else 0) := by
    intro w v
    by_cases hw : w = u
    · subst hw
      by_cases hv : v = w
      · subst hv; simp
      · simp [hv, ite_and]
    · by_cases hv : v = u
      · subst hv; simp [hw, Ne.symm hw, ite_and, Ne.symm, eq_comm]
        split_ifs <;> simp_all
      · simp [hw, hv, Ne.symm hw, Ne.symm hv]
  simp only [h1, Finset.sum_sub_distrib]
  rw [Finset.sum_comm (f := fun w v => if w = u then (if u < v ∧ x u < x v then (1 : ℤ) else 0) else 0)]
  simp only [Finset.sum_ite_eq', Finset.mem_univ, if_true]
  have hu : ((u.val : ℤ)) = ∑ j : Fin n, if j < u then (1 : ℤ) else 0 := by
    rw [Finset.sum_boole]
    have : (Finset.univ.filter fun i : Fin n => i < u) = Finset.Iio u := by ext; simp
    rw [this, Fin.card_Iio]
  have hr : (rank x u : ℤ) = ∑ j : Fin n, if before x j u then (1 : ℤ) else 0 := by
    rw [Finset.sum_boole]; rfl
  rw [hu, hr, ← Finset.sum_sub_distrib, ← Finset.sum_sub_distrib]
  refine Finset.sum_congr rfl fun j _ => ?_
  unfold before
  rcases lt_trichotomy j u with h | h | h
  · have h' : ¬ u < j := lt_asymm h
    rcases lt_trichotomy (x j) (x u) with g | g | g
    · simp [h, h', g, lt_asymm g, g.ne]
    · simp [h, h', g]
    · simp [h, h', g, lt_asymm g, g.ne']
  · subst h; simp
  · have h' : ¬ j < u := lt_asymm h
    simp [h, h']

end Cert.Spec

end
-- ==== Proof.Soft.lean ====
module

public import proofs.«01_k».proof.Proof.Spec

/-! The normalised exponentials: dividing the weights first, after subtracting any real number from the
exponents, gives the quotient of the weighted sum by the sum of the weights. -/

@[expose] public section

noncomputable section

open scoped Classical

namespace Cert.Spec

open Idealize.ShloMosaic

/-- A nonnegative real factor goes through a sum of extended reals. -/
theorem sum_mul_real {n : Nat} (f : Fin n → EReal) (r : ℝ) (hr : 0 ≤ r) :
    (∑ j, f j) * (r : EReal) = ∑ j, f j * (r : EReal) := by
  have h : ∀ s : Finset (Fin n), (∑ j ∈ s, f j) * (r : EReal) = ∑ j ∈ s, f j * (r : EReal) := by
    intro s
    induction s using Finset.induction_on with
    | empty => simp
    | insert a s ha ih =>
      rw [Finset.sum_insert ha, Finset.sum_insert ha, ← ih]
      exact EReal.right_distrib_of_nonneg_of_ne_top (EReal.coe_nonneg.mpr hr) (EReal.coe_ne_top r) _ _
  exact h _

/-- The sum of reals is the same taken in the extended reals. -/
theorem coe_sum {n : Nat} (f : Fin n → ℝ) : ((∑ j, f j : ℝ) : EReal) = ∑ j, (f j : EReal) := by
  have h : ∀ s : Finset (Fin n), ((∑ j ∈ s, f j : ℝ) : EReal) = ∑ j ∈ s, (f j : EReal) := by
    intro s
    induction s using Finset.induction_on with
    | empty => simp
    | insert a s ha ih => rw [Finset.sum_insert ha, Finset.sum_insert ha, ← ih, EReal.coe_add]
  exact h _

/-- Dividing by a nonzero real is multiplying by its inverse. -/
theorem div_real (x : EReal) (r : ℝ) (hr : r ≠ 0) : Ideal.div x (r : EReal) = x * ((r⁻¹ : ℝ) : EReal) := by
  unfold Ideal.div
  rw [if_neg (by exact_mod_cast hr), EReal.coe_inv]

/-- A matrix of real numbers. -/
def AllReal (q : Mat) : Prop := ∀ i d, ∃ y : ℝ, q i d = (y : EReal)

/-- Products of real queries and keys are real. -/
theorem att_real {q k : Mat} (hq : AllReal q) (hk : AllReal k) (i j : Fin 2048) : ∃ y : ℝ, att q k i j = (y : EReal) := by
  choose fq hfq using hq
  choose fk hfk using hk
  refine ⟨∑ d, fq i d * (1 / 8) * fk j d, ?_⟩
  rw [coe_sum]
  refine Finset.sum_congr rfl fun d _ => ?_
  rw [hfq, hfk, EReal.coe_mul, EReal.coe_mul]

/-- The mean of real keys is real. -/
theorem mean_real {k : Mat} (hk : AllReal k) (b : Fin 32) (d : Fin 64) : ∃ y : ℝ, mean k b d = (y : EReal) := by
  choose fk hfk using hk
  refine ⟨(∑ s, fk (at64 b s) d) * 64⁻¹, ?_⟩
  unfold mean
  rw [div_real _ _ (by norm_num), EReal.coe_mul, coe_sum]
  simp only [hfk]

/-- The score of real queries and keys is real. -/
theorem score_real {q k : Mat} (hq : AllReal q) (hk : AllReal k) (i : Fin 2048) (b : Fin 32) :
    ∃ y : ℝ, score q k i b = (y : EReal) := by
  choose fq hfq using hq
  choose fm hfm using mean_real hk
  refine ⟨∑ d, fq i d * fm b d, ?_⟩
  rw [coe_sum]
  refine Finset.sum_congr rfl fun d _ => ?_
  rw [hfq, hfm, EReal.coe_mul]

/-- The visible score of real queries and keys is `-∞` or real. -/
theorem visible_real {q k : Mat} (hq : AllReal q) (hk : AllReal k) (i : Fin 2048) (b : Fin 32) :
    visible q k i b = ⊥ ∨ ∃ y : ℝ, visible q k i b = (y : EReal) := by
  unfold visible
  split_ifs
  · exact Or.inr (score_real hq hk i b)
  · exact Or.inl rfl

/-- The softmax over the seen keys, shifted by `μ`, against the quotient of sums. -/
theorem softmax_eq {n : Nat} (α : Fin n → ℝ) (M : Fin n → Prop) (V : Fin n → EReal) (μ : ℝ) (hM : ∃ j, M j) :
    (∑ j, Ideal.div (Ideal.exp ((if M j then (α j : EReal) else ⊥) - (μ : EReal)))
        (∑ i, Ideal.exp ((if M i then (α i : EReal) else ⊥) - (μ : EReal))) * V j)
      = Ideal.div (∑ j, (if M j then Ideal.exp (α j : EReal) else 0) * V j)
          (∑ j, if M j then Ideal.exp (α j : EReal) else 0) := by
  have he : ∀ j, Ideal.exp ((if M j then (α j : EReal) else ⊥) - (μ : EReal))
      = (((if M j then Real.exp (α j - μ) else 0 : ℝ)) : EReal) := fun j => by
    by_cases h : M j
    · rw [if_pos h, if_pos h, ← EReal.coe_sub]; rfl
    · rw [if_neg h, if_neg h, EReal.bot_sub]; rfl
  have hw : ∀ j, (if M j then Ideal.exp (α j : EReal) else 0)
      = (((if M j then Real.exp (α j) else 0 : ℝ)) : EReal) := fun j => by
    by_cases h : M j
    · rw [if_pos h, if_pos h]; rfl
    · rw [if_neg h, if_neg h]; rfl
  simp only [he, hw, ← coe_sum]
  set e : Fin n → ℝ := fun j => if M j then Real.exp (α j - μ) else 0 with hee
  set w : Fin n → ℝ := fun j => if M j then Real.exp (α j) else 0 with hww
  have hew : ∀ j, w j = e j * Real.exp μ := fun j => by
    simp only [hee, hww]
    split_ifs
    · rw [← Real.exp_add, sub_add_cancel]
    · rw [zero_mul]
  have hs : 0 < ∑ j, e j := by
    obtain ⟨j, hj⟩ := hM
    refine Finset.sum_pos' (fun i _ => ?_) ⟨j, Finset.mem_univ _, ?_⟩
    · simp only [hee]; split_ifs
      · exact (Real.exp_pos _).le
      · exact le_refl _
    · simp only [hee, if_pos hj]; exact Real.exp_pos _
  have hl : ∑ j, w j = (∑ j, e j) * Real.exp μ := by
    rw [Finset.sum_mul]; exact Finset.sum_congr rfl fun j _ => hew j
  have hl0 : 0 < ∑ j, w j := by rw [hl]; exact mul_pos hs (Real.exp_pos _)
  rw [div_real _ _ hl0.ne', sum_mul_real _ _ (inv_nonneg.mpr hl0.le)]
  refine Finset.sum_congr rfl fun j _ => ?_
  have hj : e j * (∑ i, e i)⁻¹ = w j * (∑ i, w i)⁻¹ := by
    rw [hl, hew]
    have := Real.exp_pos μ
    field_simp
  have hc : (e j : EReal) * (((∑ i, e i)⁻¹ : ℝ) : EReal) = (w j : EReal) * (((∑ i, w i)⁻¹ : ℝ) : EReal) := by
    rw [← EReal.coe_mul, ← EReal.coe_mul, hj]
  rw [div_real _ _ hs.ne']
  exact (congrArg (· * V j) hc).trans (mul_right_comm _ _ _)

end Cert.Spec

end
-- ==== Proof.Words.lean ====
module

public import Idealize.ShloMosaic.Lib.Pointwise

/-! Small index words: a choice by a comparison of words is a choice by the comparison of the integers
they stand for. -/

@[expose] public section

namespace Cert.Words

open Idealize.ShloMosaic

/-- Selecting by the bit of a Boolean. -/
theorem select_ofBool {α : Type} (b : Bool) (x y : α) :
    Scalar.select (BitVec.ofBool b) x y = if b = true then x else y := by
  cases b <;> rfl

/-- Selecting by signed `<`. -/
theorem select_slt {α : Type} (u v : BitVec 32) (x y : α) :
    Scalar.select (IntOp.cmpi .slt u v) x y = if u.toInt < v.toInt then x else y := by
  simp only [IntOp.cmpi, select_ofBool, BitVec.slt_iff_toInt_lt]

/-- Selecting by signed `≥`. -/
theorem select_sge {α : Type} (u v : BitVec 32) (x y : α) :
    Scalar.select (IntOp.cmpi .sge u v) x y = if v.toInt ≤ u.toInt then x else y := by
  simp only [IntOp.cmpi, select_ofBool, BitVec.sle_iff_toInt_le]

/-- Selecting by signed `≤`. -/
theorem select_sle {α : Type} (u v : BitVec 32) (x y : α) :
    Scalar.select (IntOp.cmpi .sle u v) x y = if u.toInt ≤ v.toInt then x else y := by
  simp only [IntOp.cmpi, select_ofBool, BitVec.sle_iff_toInt_le]

/-- Selecting by equality. -/
theorem select_eq {α : Type} (u v : BitVec 32) (x y : α) :
    Scalar.select (IntOp.cmpi .eq u v) x y = if u = v then x else y := by
  simp only [IntOp.cmpi, select_ofBool, beq_iff_eq]

/-- A comparison bit is 1 exactly when the comparison holds. -/
theorem sle_bit (u v : BitVec 32) : IntOp.cmpi .sle u v = 1#1 ↔ u.toInt ≤ v.toInt := by
  rw [← BitVec.sle_iff_toInt_le]; simp only [IntOp.cmpi]; cases u.sle v <;> decide

/-- A small number as a word, read back. -/
theorem toInt_ofNat (n : ℕ) (h : n < 2 ^ 31) : (BitVec.ofNat 32 n).toInt = n := by
  rw [BitVec.toInt_ofNat', Int.bmod_def]; omega

/-- A difference of two small numbers as words, read back. -/
theorem toInt_sub (n k : ℕ) (h : n < 2 ^ 30) (h' : k < 2 ^ 30) :
    (BitVec.ofNat 32 n - BitVec.ofNat 32 k).toInt = (n : ℤ) - k := by
  rw [BitVec.toInt_sub, toInt_ofNat n (by omega), toInt_ofNat k (by omega), Int.bmod_def]; omega

/-- `n - k - l` of small numbers as words, read back. -/
theorem toInt_sub_sub (n k l : ℕ) (h : n < 2 ^ 29) (h' : k < 2 ^ 29) (h'' : l < 2 ^ 29) :
    (BitVec.ofNat 32 n - BitVec.ofNat 32 k - BitVec.ofNat 32 l).toInt = (n : ℤ) - k - l := by
  rw [BitVec.toInt_sub, toInt_sub n k (by omega) (by omega), toInt_ofNat l (by omega), Int.bmod_def]; omega

/-- Small numbers are equal when their words are. -/
theorem ofNat_inj {n k : ℕ} (h : n < 2 ^ 31) (h' : k < 2 ^ 31) :
    BitVec.ofNat 32 n = BitVec.ofNat 32 k ↔ n = k := by
  constructor
  · intro e
    have := congrArg BitVec.toInt e
    rw [toInt_ofNat n h, toInt_ofNat k h'] at this
    omega
  · rintro rfl; rfl

/-- The sum of two words is the word of the sum. -/
theorem addi_ofNat (n k : ℕ) : IntOp.addi (BitVec.ofNat 32 n) (BitVec.ofNat 32 k) = BitVec.ofNat 32 (n + k) := by
  simp [IntOp.addi, BitVec.ofNat_add]

/-- The product of two words is the word of the product. -/
theorem muli_ofNat (n k : ℕ) : IntOp.muli (BitVec.ofNat 32 n) (BitVec.ofNat 32 k) = BitVec.ofNat 32 (n * k) := by
  simp [IntOp.muli, BitVec.ofNat_mul]

/-- The f32 words of the constants, as numbers. -/
theorem bits_neg_inf : Ideal.ofBits .f32 0xFF800000#32 = ⊥ := by
  simp [Ideal.ofBits, Ideal.ieee]

/-- The word for `-1` means `-1`. -/
theorem bits_neg_one : Ideal.ofBits .f32 0xBF800000#32 = -1 := by
  rw [show (-1 : EReal) = ((-1 : ℝ) : EReal) by rw [EReal.coe_neg, EReal.coe_one]]
  simp [Ideal.ofBits, Ideal.ieee, -EReal.coe_mul, -EReal.coe_neg]; norm_num

/-- The word for one eighth means one eighth. -/
theorem bits_eighth : Ideal.ofBits .f32 0x3E000000#32 = ((1 / 8 : ℝ) : EReal) := by
  simp [Ideal.ofBits, Ideal.ieee, -EReal.coe_mul]; norm_num

/-- The word for `64` means `64`. -/
theorem bits_64 : Ideal.ofBits .f32 0x42800000#32 = ((64 : ℝ) : EReal) := by
  simp [Ideal.ofBits, Ideal.ieee, -EReal.coe_mul]; norm_num

end Cert.Words
-- ==== Proof.KTab.lean ====
module

public import proofs.«01_k».proof.Proof.Words
public import proofs.«01_k».proof.Proof.Gen.KernelIdeal.Value
public import Idealize.ShloMosaic.Lib.Pointwise
public import Idealize.ShloMosaic.Lib.Pipeline.ValueKit

/-! What the kernel is given: its reshaped queries, keys and values, and its tables, entry by entry, and the
blocks of them that a grid point reads. -/

@[expose] public section

set_option maxRecDepth 16384

noncomputable section

namespace Cert.KernelIdeal.Body

open Cert.Words Cert.KernelIdeal Cert.KernelIdeal.Gen Idealize.ShloMosaic Idealize.ShloMosaic.TcCoe Idealize.SL.Sem

variable (m : (ℓ : Loc nD τ sig) → Buf (Elt Ideal) ℓ)

/-- Which block of the queries, the keys, the values and the result a grid point reads or writes. -/
theorem idx : ∀ t : Fin cfg0.N,
    win0_0.index t = ![t.val / 2, t.val % 2, 0] ∧ win0_1.index t = ![t.val / 2, 0, 0]
    ∧ win0_2.index t = ![t.val / 2, 0, 0] ∧ win0_10.index t = ![t.val / 2, t.val % 2, 0]
    ∧ (grid0.coords t 0).val = t.val / 2 ∧ (grid0.coords t 1).val = t.val % 2 ∧ t.val < 24 :=
  (by decide +kernel : ∀ t : Fin grid0.N, _)

/-- The tables are read whole at every grid point. -/
theorem idx' : ∀ t : Fin cfg0.N,
    win0_3.index t = ![0, 0] ∧ win0_4.index t = ![0, 0] ∧ win0_5.index t = ![0, 0]
    ∧ win0_6.index t = ![0, 0, 0] ∧ win0_7.index t = ![0, 0, 0] ∧ win0_8.index t = ![0, 0, 0]
    ∧ win0_9.index t = ![0, 0] :=
  (by decide +kernel : ∀ t : Fin grid0.N, _)

/-- The head that the grid point `t` works on. -/
def hd (t : Fin cfg0.N) : Fin 12 := ⟨t.val / 2, by have := (idx t).2.2.2.2.2.2; omega⟩

/-- The position of row `r` of the query block of the grid point `t`. -/
def qpos (t : Fin cfg0.N) (r : Fin 1024) : Fin 2048 := ⟨1024 * (t.val % 2) + r.val, by omega⟩

/-- The reshaped queries, entry by entry. -/
theorem V0 (c : Dev nD) (h : Fin 12) (r : Fin 2048) (d : Fin 64) :
    (V m c main_call0_v0 : FVec Ideal S12x2048x64 .f32) (ix3 h r d) = m ((c : Thread nD τ).loc main_arg0) (ix4 0 h r d) := by
  entry_read; pointwise

/-- The reshaped keys, entry by entry. -/
theorem V1 (c : Dev nD) (h : Fin 12) (r : Fin 2048) (d : Fin 64) :
    (V m c main_call0_v1 : FVec Ideal S12x2048x64 .f32) (ix3 h r d) = m ((c : Thread nD τ).loc main_arg1) (ix4 0 h r d) := by
  entry_read; pointwise

/-- The reshaped values, entry by entry. -/
theorem V2 (c : Dev nD) (h : Fin 12) (r : Fin 2048) (d : Fin 64) :
    (V m c main_call0_v2 : FVec Ideal S12x2048x64 .f32) (ix3 h r d) = m ((c : Thread nD τ).loc main_arg2) (ix4 0 h r d) := by
  entry_read; pointwise

/-- The query block of a grid point: 1024 rows of its head's queries. -/
theorem iblk0 (c : Dev nD) (t : Fin cfg0.N) (r : Fin 1024) (d : Fin 64) :
    iblk m c 0 t (ix3 0 r d) = m ((c : Thread nD τ).loc main_arg0) (ix4 0 (hd t) (qpos t r) d) := by
  refine Eq.trans ?_ (V0 m c (hd t) (qpos t r) d)
  blk_ext [iblk, idx t, hd, qpos]

/-- The keys of a grid point: all of its head's. -/
theorem iblk1 (c : Dev nD) (t : Fin cfg0.N) (j : Fin 2048) (d : Fin 64) :
    iblk m c 1 t (ix3 0 j d) = m ((c : Thread nD τ).loc main_arg1) (ix4 0 (hd t) j d) := by
  refine Eq.trans ?_ (V1 m c (hd t) j d)
  blk_ext [iblk, idx t, hd, qpos]

/-- The values of a grid point: all of its head's. -/
theorem iblk2 (c : Dev nD) (t : Fin cfg0.N) (j : Fin 2048) (d : Fin 64) :
    iblk m c 2 t (ix3 0 j d) = m ((c : Thread nD τ).loc main_arg2) (ix4 0 (hd t) j d) := by
  refine Eq.trans ?_ (V2 m c (hd t) j d)
  blk_ext [iblk, idx t, hd, qpos]

/-- The causal table: row `r` against key `s` of chunk `k` of the query block. -/
theorem iblk7 (c : Dev nD) (t : Fin cfg0.N) (k : Fin 4) (r : Fin 1024) (s : Fin 256) :
    iblk m c 7 t (ix3 k r s) = if s.val + 256 * k.val ≤ r.val then (0 : EReal) else ⊥ := by
  have e : (V m c main_call0_v37 : FVec Ideal S4x1024x256 .f32) (ix3 k r s)
      = if s.val + 256 * k.val ≤ r.val then (0 : EReal) else ⊥ := by
    entry_read
    simp only [StableHlo.TRef.ofBuf_toBuf, StableHlo.TRef.toBuf, cast_eq]
    pointwise
    rw [muli_ofNat, addi_ofNat, select_sge, toInt_ofNat _ (by omega), toInt_ofNat _ (by omega), bits_neg_inf]
    exact if_congr (by omega) rfl rfl
  refine Eq.trans ?_ e
  blk_ext [iblk, idx' t]

/-- The window table: row `r` against key `s` of chunk `k` of the query block. -/
theorem iblk8 (c : Dev nD) (t : Fin cfg0.N) (k : Fin 4) (r : Fin 1024) (s : Fin 256) :
    iblk m c 8 t (ix3 k r s) = if r.val < s.val + 256 * k.val + 256 then (0 : EReal) else ⊥ := by
  have e : (V m c main_call0_v44 : FVec Ideal S4x1024x256 .f32) (ix3 k r s)
      = if r.val < s.val + 256 * k.val + 256 then (0 : EReal) else ⊥ := by
    entry_read
    simp only [StableHlo.TRef.ofBuf_toBuf, StableHlo.TRef.toBuf, cast_eq]
    pointwise
    rw [muli_ofNat, select_slt, show IntOp.subi (IntOp.subi (BitVec.ofNat 32 r.val) (BitVec.ofNat 32 s.val))
      (BitVec.ofNat 32 (k.val * 256)) = BitVec.ofNat 32 r.val - BitVec.ofNat 32 s.val - BitVec.ofNat 32 (k.val * 256)
      from rfl, toInt_sub_sub _ _ _ (by omega) (by omega) (by omega), toInt_ofNat 256 (by omega), bits_neg_inf]
    exact if_congr (by omega) rfl rfl
  refine Eq.trans ?_ e
  blk_ext [iblk, idx' t]

/-- The window table of the chunk before the query block. -/
theorem iblk9 (c : Dev nD) (t : Fin cfg0.N) (r : Fin 1024) (s : Fin 256) :
    iblk m c 9 t (ix2 r s) = if r.val < s.val then (0 : EReal) else ⊥ := by
  have e : (V m c main_call0_v48 : FVec Ideal S1024x256 .f32) (ix2 r s)
      = if r.val < s.val then (0 : EReal) else ⊥ := by
    entry_read
    simp only [StableHlo.TRef.ofBuf_toBuf, StableHlo.TRef.toBuf, cast_eq]
    pointwise
    rw [select_slt, toInt_ofNat _ (by omega), toInt_ofNat _ (by omega), bits_neg_inf]
    exact if_congr (by omega) rfl rfl
  refine Eq.trans ?_ e
  blk_ext [iblk, idx' t]

/-- The host's floor division of a key's place in its chunk by the block length. -/
theorem div64 (s : Fin 256) :
    Scalar.select
      (IntOp.andi
        (IntOp.cmpi CmpIPredicate.ne
          (if BitVec.ofNat 32 s.val = 0 then 0 else if (BitVec.ofNat 32 s.val).msb = true then -1 else 1)
          (if 64#32 = 0 then 0 else if (64#32).msb = true then -1 else 1 : BitVec 32))
        (IntOp.cmpi CmpIPredicate.ne (IntOp.remsi ArithUnit.host (BitVec.ofNat 32 s.val) 64#32) 0#32))
      (IntOp.subi (IntOp.divsi ArithUnit.host (BitVec.ofNat 32 s.val) 64#32) 1#32)
      (IntOp.divsi ArithUnit.host (BitVec.ofNat 32 s.val) 64#32) = BitVec.ofNat 32 (s.val / 64) := by
  revert s
  decide +kernel

/-- The place of an index in a list of 512 is the index. -/
theorem row512 (p : Fin 512) : S512.rowMajor (ix1 p) = p :=
  Fin.ext (by rw [Shape.rowMajor_val_one]; rfl)

/-- The table that spreads blocks to the keys of chunk `k`: key `s` lies in block `4 k + s / 64`. -/
theorem iblk6 (c : Dev nD) (t : Fin cfg0.N) (k : Fin 8) (b : Fin 32) (s : Fin 256) :
    iblk m c 6 t (ix3 k b s) = if b.val = 4 * k.val + s.val / 64 then (1 : EReal) else 0 := by
  have e : (V m c main_call0_v29 : FVec Ideal S8x32x256 .f32) (ix3 k b s)
      = if b.val = 4 * k.val + s.val / 64 then (1 : EReal) else 0 := by
    entry_read
    simp only [StableHlo.TRef.ofBuf_toBuf, StableHlo.TRef.toBuf, cast_eq]
    pointwise
    refine (congrArg (fun z => Scalar.select (IntOp.cmpi .eq (BitVec.ofNat 32 b.val)
      (IntOp.addi (IntOp.muli (BitVec.ofNat 32 k.val) 4#32) z)) (1 : EReal) 0) (div64 s)).trans ?_
    rw [muli_ofNat, addi_ofNat, select_eq]
    exact if_congr ((ofNat_inj (by omega) (by omega)).trans (by omega)) rfl rfl
  refine Eq.trans ?_ e
  blk_ext [iblk, idx' t]

/-- The table of the pairs' first members. -/
theorem iblk3 (c : Dev nD) (t : Fin cfg0.N) (b : Fin 32) (p : Fin 512) :
    iblk m c 3 t (ix2 b p) = if BitVec.ofNat 32 b.val = lit0 p then (1 : EReal) else 0 := by
  have e : (V m c main_call0_v7 : FVec Ideal S32x512 .f32) (ix2 b p)
      = if BitVec.ofNat 32 b.val = lit0 p then (1 : EReal) else 0 := by
    entry_read
    simp only [StableHlo.TRef.ofBuf_toBuf, StableHlo.TRef.toBuf, cast_eq]
    pointwise
    rw [select_eq, row512]
  refine Eq.trans ?_ e
  blk_ext [iblk, idx' t]

/-- The table of the pairs' second members. -/
theorem iblk4 (c : Dev nD) (t : Fin cfg0.N) (b : Fin 32) (p : Fin 512) :
    iblk m c 4 t (ix2 b p) = if BitVec.ofNat 32 b.val = lit1 p then (1 : EReal) else 0 := by
  have e : (V m c main_call0_v11 : FVec Ideal S32x512 .f32) (ix2 b p)
      = if BitVec.ofNat 32 b.val = lit1 p then (1 : EReal) else 0 := by
    entry_read
    simp only [StableHlo.TRef.ofBuf_toBuf, StableHlo.TRef.toBuf, cast_eq]
    pointwise
    rw [select_eq, row512]
  refine Eq.trans ?_ e
  blk_ext [iblk, idx' t]

/-- The table that adds a pair's bit to its first member and takes it from its second. -/
theorem iblk5 (c : Dev nD) (t : Fin cfg0.N) (p : Fin 512) (b : Fin 32) :
    iblk m c 5 t (ix2 p b)
      = if BitVec.ofNat 32 b.val = lit0 p then (1 : EReal) else if BitVec.ofNat 32 b.val = lit1 p then -1 else 0 := by
  have e : (V m c main_call0_v20 : FVec Ideal S512x32 .f32) (ix2 p b)
      = if BitVec.ofNat 32 b.val = lit0 p then (1 : EReal) else if BitVec.ofNat 32 b.val = lit1 p then -1 else 0 := by
    entry_read
    simp only [StableHlo.TRef.ofBuf_toBuf, StableHlo.TRef.toBuf, cast_eq]
    pointwise
    rw [select_eq, select_eq]
    rw [bits_neg_one, row512]
  refine Eq.trans ?_ e
  blk_ext [iblk, idx' t]

end Cert.KernelIdeal.Body

end
-- ==== Proof.KPay.lean ====
module

public import proofs.«01_k».proof.Proof.Gen.KernelIdeal.Value
public import Idealize.ShloMosaic.Lib.Pointwise

/-!
The kernel's arithmetic, read one entry at a time. A chunk of 256 keys gives the weights
`exp (q·k + bias)`; the denominators are sums of weights over the chunk, the numerators are the
weights against the values of the chunk.
-/

@[expose] public section

set_option maxRecDepth 16384

noncomputable section

namespace Cert.KernelIdeal.Body

open Cert.KernelIdeal Cert.KernelIdeal.Gen Idealize.ShloMosaic Idealize.ShloMosaic.TcCoe Idealize.SL.Sem

/-- The score of row `r` against key `t` of a chunk. -/
def attC (v4 : FVec Ideal S1024x64 .bf16) (K : Vec Ideal S1x256x64 .f32) (r : Fin 1024) (t : Fin 256) : EReal :=
  ∑ d : Fin 64, v4 (ix2 r d) * K (ix3 0 t d)

/-- The selection bias of row `r`, spread from blocks to key `t` of a chunk by the table `E`. -/
def selC (s : Vec Ideal S1024x32 .f32) (E : Vec Ideal S1x32x256 .f32) (r : Fin 1024) (t : Fin 256) : EReal :=
  ∑ b : Fin 32, s (ix2 r b) * E (ix3 0 b t)

/-- The scaled queries. -/
theorem pay12_apply (Q : Vec Ideal S1x1024x64 .f32) (r : Fin 1024) (d : Fin 64) :
    k0_pay12 (F := Ideal) Q (ix2 r d) = Q (ix3 0 r d) * Scalar.ofBits (F := Ideal) .f32 0x3E000000#32 := by
  pointwise [k0_pay12, k0_pay11]

/-- The weights of a chunk outside the window. -/
theorem pay1_apply (v4 s E K) (r : Fin 1024) (t : Fin 256) :
    k0_pay1 (F := Ideal) v4 s E K (ix2 r t) = Ideal.exp (attC v4 K r t + selC s E r t) := by
  pointwise [k0_pay1, attC, selC]

/-- A far chunk adds its weights to the running sum. -/
theorem pay2_apply (v4 s L E K) (r : Fin 1024) :
    k0_pay2 (F := Ideal) v4 s L E K (ix2 r 0)
      = L (ix2 r 0) + ∑ t : Fin 256, Ideal.exp (attC v4 K r t + selC s E r t) := by
  simp only [← pay1_apply]
  pointwise [k0_pay2]

/-- A far chunk adds its weighted values to the running sum. -/
theorem pay3_apply (v4 s A E K V) (r : Fin 1024) (e : Fin 64) :
    k0_pay3 (F := Ideal) v4 s A E K V (ix2 r e)
      = A (ix2 r e) + ∑ t : Fin 256, Ideal.exp (attC v4 K r t + selC s E r t) * V (ix3 0 t e) := by
  simp only [← pay1_apply]
  pointwise [k0_pay3]

/-- The result is the weighted values over the sum of the weights. -/
theorem pay7_apply (L A) (r : Fin 1024) (e : Fin 64) :
    k0_pay7 (F := Ideal) L A (ix3 0 r e) = Ideal.div (A (ix2 r e)) (L (ix2 r 0)) := by
  pointwise [k0_pay7]

/-- The starting value is zero everywhere. -/
theorem pay13_apply (j) : k0_pay13 (F := Ideal) j = 0 := by
  pointwise [k0_pay13, Ideal.ofBits_zero_f32]

/-- The weights of the last chunk of the query block, under the causal table alone. -/
theorem pay18_apply (v4 T K) (r : Fin 1024) (t : Fin 256) :
    k0_pay18 (F := Ideal) v4 (k0_pay15 T) (k0_pay16 K) (ix2 r t)
      = Ideal.exp (attC v4 K r t + T (ix3 0 r t)) := by
  pointwise [k0_pay18, k0_pay15, k0_pay16, attC]

/-- The summed weights of the last chunk of the query block. -/
theorem pay19_apply (v4 T K) (r : Fin 1024) :
    k0_pay19 (F := Ideal) v4 (k0_pay15 T) (k0_pay16 K) (ix2 r 0)
      = ∑ t : Fin 256, Ideal.exp (attC v4 K r t + T (ix3 0 r t)) := by
  rw [Finset.sum_congr rfl fun t _ => (pay18_apply v4 T K r t).symm]
  pointwise [k0_pay19]

/-- The summed weighted values of the last chunk of the query block. -/
theorem pay20_apply (v4 T K V) (r : Fin 1024) (e : Fin 64) :
    k0_pay20 (F := Ideal) v4 (k0_pay15 T) (k0_pay16 K) (k0_pay17 V) (ix2 r e)
      = ∑ t : Fin 256, Ideal.exp (attC v4 K r t + T (ix3 0 r t)) * V (ix3 0 t e) := by
  rw [Finset.sum_congr rfl fun t _ => congrArg (· * V (ix3 0 t e)) (pay18_apply v4 T K r t).symm]
  pointwise [k0_pay20, k0_pay17]

/-- The weight of a key in a chunk that straddles the window: the causal table, plus the larger of
    the window table and the selection bias. -/
def wW (v4 : FVec Ideal S1024x64 .bf16) (s : Vec Ideal S1024x32 .f32) (T W : Vec Ideal S1x1024x256 .f32)
    (E : Vec Ideal S1x32x256 .f32) (K : Vec Ideal S1x256x64 .f32) (r : Fin 1024) (t : Fin 256) : EReal :=
  Ideal.exp (attC v4 K r t + (T (ix3 0 r t) + max (W (ix3 0 r t)) (selC s E r t)))

/-- The weights of one of the three chunks that straddle the window. -/
theorem pay22_apply (v4 s T W E K) (r : Fin 1024) (t : Fin 256) :
    k0_pay22 (F := Ideal) v4 s T W E K (ix2 r t) = wW v4 s T W E K r t := by
  pointwise [k0_pay22, wW, attC, selC]

/-- The weights of one of the three chunks that straddle the window. -/
theorem pay26_apply (v4 s T W E K) (r : Fin 1024) (t : Fin 256) :
    k0_pay26 (F := Ideal) v4 s T W E K (ix2 r t) = wW v4 s T W E K r t := by
  pointwise [k0_pay26, wW, attC, selC]

/-- The weights of one of the three chunks that straddle the window. -/
theorem pay28_apply (v4 s T W E K) (r : Fin 1024) (t : Fin 256) :
    k0_pay28 (F := Ideal) v4 s T W E K (ix2 r t) = wW v4 s T W E K r t := by
  pointwise [k0_pay28, wW, attC, selC]

/-- Weights of a chunk are added to the running sum. -/
theorem pay23_apply (L p) (r : Fin 1024) :
    k0_pay23 (F := Ideal) L p (ix2 r 0) = L (ix2 r 0) + ∑ t : Fin 256, p (ix2 r t) := by
  pointwise [k0_pay23]

/-- Weighted values of a chunk are added to the running sum. -/
theorem pay24_apply (A V p) (r : Fin 1024) (e : Fin 64) :
    k0_pay24 (F := Ideal) A (k0_pay21 V) p (ix2 r e)
      = A (ix2 r e) + ∑ t : Fin 256, p (ix2 r t) * V (ix3 0 t e) := by
  pointwise [k0_pay24, k0_pay21]

/-- The summed weights of one of the three chunks that straddle the window. -/
theorem pay27_apply (v4 s T W E K) (r : Fin 1024) :
    k0_pay27 (F := Ideal) v4 s T W E K (ix2 r 0) = ∑ t : Fin 256, wW v4 s T W E K r t := by
  simp only [← pay26_apply]
  pointwise [k0_pay27]

/-- Two running sums and the weights of another straddling chunk, added up. -/
theorem pay29_apply (v4 s L L' T W E K) (r : Fin 1024) :
    k0_pay29 (F := Ideal) v4 s L L' T W E K (ix2 r 0)
      = L (ix2 r 0) + L' (ix2 r 0) + ∑ t : Fin 256, wW v4 s T W E K r t := by
  simp only [← pay28_apply]
  pointwise [k0_pay29]

/-- The weighted values of two straddling chunks, added to the running sum. -/
theorem pay30_apply (v4 s A V p T W E K V') (r : Fin 1024) (e : Fin 64) :
    k0_pay30 (F := Ideal) v4 s A (k0_pay25 V) p T W E K V' (ix2 r e)
      = A (ix2 r e) + (∑ t : Fin 256, p (ix2 r t) * V (ix3 0 t e))
        + ∑ t : Fin 256, wW v4 s T W E K r t * V' (ix3 0 t e) := by
  simp only [← pay28_apply]
  pointwise [k0_pay30, k0_pay25]

/-- The weight of a key in the chunk before the four of the query block: the larger of the selection
    bias and the window table, and nothing when there is no such chunk. -/
def wP (a : BitVec 32) (v4 : FVec Ideal S1024x64 .bf16) (s : Vec Ideal S1024x32 .f32)
    (E : Vec Ideal S1x32x256 .f32) (W : Vec Ideal S1024x256 .f32) (K : Vec Ideal S1x256x64 .f32)
    (r : Fin 1024) (t : Fin 256) : EReal :=
  Ideal.exp (attC v4 K r t + (max (selC s E r t) (W (ix2 r t))
    + (if Scalar.cmpi .sge a 1#32 = 1#1 then 0 else ⊥)))

/-- The weights of the chunk before the query block. -/
theorem pay31_apply (a v4 s E W K) (r : Fin 1024) (t : Fin 256) :
    k0_pay31 (F := Ideal) a v4 s E W K (ix2 r t) = wP a v4 s E W K r t := by
  pointwise [k0_pay31, wP, attC, selC]
  rfl

/-- The chunk before the query block adds its weights to the running sum. -/
theorem pay32_apply (a v4 s L E W K) (r : Fin 1024) :
    k0_pay32 (F := Ideal) a v4 s L E W K (ix2 r 0)
      = L (ix2 r 0) + ∑ t : Fin 256, wP a v4 s E W K r t := by
  simp only [← pay31_apply]
  pointwise [k0_pay32]

/-- The chunk before the query block adds its weighted values to the running sum. -/
theorem pay33_apply (a v4 s A E W K V) (r : Fin 1024) (e : Fin 64) :
    k0_pay33 (F := Ideal) a v4 s A E W K V (ix2 r e)
      = A (ix2 r e) + ∑ t : Fin 256, wP a v4 s E W K r t * V (ix3 0 t e) := by
  simp only [← pay31_apply]
  pointwise [k0_pay33]

end Cert.KernelIdeal.Body

end
-- ==== Proof.KBody.lean ====
module

public import proofs.«01_k».proof.Proof.KPay
public import Idealize.ShloMosaic.Lib.Pipeline.ValueKit

/-!
What a grid point stores, as the composition of the kernel's arithmetic: the five chunks next to the
query block first, then (for the second query block) the three far chunks of the loop.
-/

@[expose] public section

set_option maxRecDepth 16384

noncomputable section

namespace Cert.KernelIdeal.Body

open Cert.KernelIdeal Cert.KernelIdeal.Gen Idealize.ShloMosaic Idealize.ShloMosaic.TcCoe Idealize.SL.Sem

variable (m : (ℓ : Loc nD τ sig) → Buf (Elt Ideal) ℓ)

/-- The chunk of 256 keys (or values) at an offset. -/
abbrev chunk (X : Vec Ideal S1x2048x64 .f32) (off : Fin 3 → ℕ) (h : ∀ a, off a + S1x256x64.size a ≤ S1x2048x64.size a) :
    Vec Ideal S1x256x64 .f32 :=
  View.ld X (Rect.unit (s := S1x2048x64) off S1x256x64.size h)

/-- One layer of a table with a layer for each chunk of the query block. -/
abbrev layer (X : Vec Ideal S4x1024x256 .f32) (off : Fin 3 → ℕ) (h : ∀ a, off a + S1x1024x256.size a ≤ S4x1024x256.size a) :
    Vec Ideal S1x1024x256 .f32 :=
  View.ld X (Rect.unit (s := S4x1024x256) off S1x1024x256.size h)

/-- One layer of the table that spreads blocks to the keys of a chunk. -/
abbrev spread (X : Vec Ideal S8x32x256 .f32) (off : Fin 3 → ℕ) (h : ∀ a, off a + S1x32x256.size a ≤ S8x32x256.size a) :
    Vec Ideal S1x32x256 .f32 :=
  View.ld X (Rect.unit (s := S8x32x256) off S1x32x256.size h)

/-- The selection bias that the second query block computes. -/
def selB (c : Dev nD) (t : Fin cfg0.N) : Vec Ideal S1024x32 .f32 :=
  k0_pay14 (F := Ideal) (iota Kind.tc S1024x32 32 [1] iota_S1024x32_d1_w32)
    (k0_pay8 (BitVec.ofNat 32 (grid0.coords t 1).val))
    (k0_pay9 (BitVec.ofNat 32 (grid0.coords t 1).val) (k0_pay11 (iblk m c 0 t)) (iblk m c 1 t) (iblk m c 3 t) (iblk m c 4 t))
    (FloatOps.ofBits FTy.f32 0#32) k0_pay10 (iblk m c 5 t)

/-- The denominators after the five near chunks, at the selection bias `s`. -/
def L0 (c : Dev nD) (t : Fin cfg0.N) (s : Vec Ideal S1024x32 .f32) : FVec Ideal S1024x1 .f32 :=
  k0_pay32 (F := Ideal) (BitVec.ofNat 32 (grid0.coords t 1).val) (k0_pay12 (iblk m c 0 t)) s
    (k0_pay29 (k0_pay12 (iblk m c 0 t)) s
      (k0_pay23
        (k0_pay19 (k0_pay12 (iblk m c 0 t))
          (k0_pay15 (layer (iblk m c 7 t) ![3, 0, 0] inb_S4x1024x256_S1x1024x256_3_0_0))
          (k0_pay16 (chunk (iblk m c 1 t) (k0_off1 (grid0.coords t)) (k0_off1_inb _))))
        (k0_pay22 (k0_pay12 (iblk m c 0 t)) s
          (layer (iblk m c 7 t) ![2, 0, 0] inb_S4x1024x256_S1x1024x256_2_0_0)
          (layer (iblk m c 8 t) ![2, 0, 0] inb_S4x1024x256_S1x1024x256_2_0_0)
          (spread (iblk m c 6 t) (k0_off2 (grid0.coords t) 2#32) (k0_off2_inb _ 2))
          (chunk (iblk m c 1 t) (k0_off3 (grid0.coords t) 2#32) (k0_off3_inb _ 2))))
      (k0_pay27 (k0_pay12 (iblk m c 0 t)) s
        (layer (iblk m c 7 t) ![1, 0, 0] inb_S4x1024x256_S1x1024x256_1_0_0)
        (layer (iblk m c 8 t) ![1, 0, 0] inb_S4x1024x256_S1x1024x256_1_0_0)
        (spread (iblk m c 6 t) (k0_off2 (grid0.coords t) 1#32) (k0_off2_inb _ 1))
        (chunk (iblk m c 1 t) (k0_off3 (grid0.coords t) 1#32) (k0_off3_inb _ 1)))
      (layer (iblk m c 7 t) ![0, 0, 0] inb_S4x1024x256_S1x1024x256_0_0_0)
      (layer (iblk m c 8 t) ![0, 0, 0] inb_S4x1024x256_S1x1024x256_0_0_0)
      (spread (iblk m c 6 t) (k0_off2 (grid0.coords t) 0#32) (k0_off2_inb _ 0))
      (chunk (iblk m c 1 t) (k0_off3 (grid0.coords t) 0#32) (k0_off3_inb _ 0)))
    (spread (iblk m c 6 t) (k0_off4 (grid0.coords t)) (k0_off4_inb _)) (iblk m c 9 t)
    (chunk (iblk m c 1 t) (k0_off5 (grid0.coords t)) (k0_off5_inb _))

/-- The numerators after the five near chunks, at the selection bias `s`. -/
def A0 (c : Dev nD) (t : Fin cfg0.N) (s : Vec Ideal S1024x32 .f32) : FVec Ideal S1024x64 .f32 :=
  k0_pay33 (F := Ideal) (BitVec.ofNat 32 (grid0.coords t 1).val) (k0_pay12 (iblk m c 0 t)) s
    (k0_pay30 (k0_pay12 (iblk m c 0 t)) s
      (k0_pay24
        (k0_pay20 (k0_pay12 (iblk m c 0 t))
          (k0_pay15 (layer (iblk m c 7 t) ![3, 0, 0] inb_S4x1024x256_S1x1024x256_3_0_0))
          (k0_pay16 (chunk (iblk m c 1 t) (k0_off1 (grid0.coords t)) (k0_off1_inb _)))
          (k0_pay17 (chunk (iblk m c 2 t) (k0_off1 (grid0.coords t)) (k0_off1_inb _))))
        (k0_pay21 (chunk (iblk m c 2 t) (k0_off3 (grid0.coords t) 2#32) (k0_off3_inb _ 2)))
        (k0_pay22 (k0_pay12 (iblk m c 0 t)) s
          (layer (iblk m c 7 t) ![2, 0, 0] inb_S4x1024x256_S1x1024x256_2_0_0)
          (layer (iblk m c 8 t) ![2, 0, 0] inb_S4x1024x256_S1x1024x256_2_0_0)
          (spread (iblk m c 6 t) (k0_off2 (grid0.coords t) 2#32) (k0_off2_inb _ 2))
          (chunk (iblk m c 1 t) (k0_off3 (grid0.coords t) 2#32) (k0_off3_inb _ 2))))
      (k0_pay25 (chunk (iblk m c 2 t) (k0_off3 (grid0.coords t) 1#32) (k0_off3_inb _ 1)))
      (k0_pay26 (k0_pay12 (iblk m c 0 t)) s
        (layer (iblk m c 7 t) ![1, 0, 0] inb_S4x1024x256_S1x1024x256_1_0_0)
        (layer (iblk m c 8 t) ![1, 0, 0] inb_S4x1024x256_S1x1024x256_1_0_0)
        (spread (iblk m c 6 t) (k0_off2 (grid0.coords t) 1#32) (k0_off2_inb _ 1))
        (chunk (iblk m c 1 t) (k0_off3 (grid0.coords t) 1#32) (k0_off3_inb _ 1)))
      (layer (iblk m c 7 t) ![0, 0, 0] inb_S4x1024x256_S1x1024x256_0_0_0)
      (layer (iblk m c 8 t) ![0, 0, 0] inb_S4x1024x256_S1x1024x256_0_0_0)
      (spread (iblk m c 6 t) (k0_off2 (grid0.coords t) 0#32) (k0_off2_inb _ 0))
      (chunk (iblk m c 1 t) (k0_off3 (grid0.coords t) 0#32) (k0_off3_inb _ 0))
      (chunk (iblk m c 2 t) (k0_off3 (grid0.coords t) 0#32) (k0_off3_inb _ 0)))
    (spread (iblk m c 6 t) (k0_off4 (grid0.coords t)) (k0_off4_inb _)) (iblk m c 9 t)
    (chunk (iblk m c 1 t) (k0_off5 (grid0.coords t)) (k0_off5_inb _))
    (chunk (iblk m c 2 t) (k0_off5 (grid0.coords t)) (k0_off5_inb _))

/-- One far chunk: the denominators and numerators with its weights added. -/
def far (c : Dev nD) (t : Fin cfg0.N) (s : Vec Ideal S1024x32 .f32) (k : Fin (k0_t1_loop (grid0.coords t)).trips)
    (p : FVec Ideal S1024x1 .f32 × FVec Ideal S1024x64 .f32) : FVec Ideal S1024x1 .f32 × FVec Ideal S1024x64 .f32 :=
  (k0_pay2 (F := Ideal) (k0_pay12 (iblk m c 0 t)) s p.1
      (spread (iblk m c 6 t) (k0_off6 (grid0.coords t) k) (k0_off6_inb _ _))
      (chunk (iblk m c 1 t) (k0_off7 (grid0.coords t) k) (k0_off7_inb _ _)),
   k0_pay3 (F := Ideal) (k0_pay12 (iblk m c 0 t)) s p.2
      (spread (iblk m c 6 t) (k0_off6 (grid0.coords t) k) (k0_off6_inb _ _))
      (chunk (iblk m c 1 t) (k0_off7 (grid0.coords t) k) (k0_off7_inb _ _))
      (chunk (iblk m c 2 t) (k0_off7 (grid0.coords t) k) (k0_off7_inb _ _)))

/-- The loop over far chunks does not run for the first query block. -/
theorem trips_A (i : grid0.Coords) (h : (i 1).val = 0) : (k0_t1_loop i).trips = 0 := by
  have : ∀ i : grid0.Coords, (i 1).val = 0 → (k0_t1_loop i).trips = 0 := by decide +kernel
  exact this i h

/-- The loop over far chunks runs three times for the second query block. -/
theorem trips_B (i : grid0.Coords) (h : (i 1).val = 1) : (k0_t1_loop i).trips = 3 := by
  have : ∀ i : grid0.Coords, (i 1).val = 1 → (k0_t1_loop i).trips = 3 := by decide +kernel
  exact this i h

/-- The second loop never runs. -/
theorem trips_2 (i : grid0.Coords) : (k0_t2_loop i).trips = 0 := by
  have : ∀ i : grid0.Coords, (k0_t2_loop i).trips = 0 := by decide +kernel
  exact this i

/-- The second grid coordinate is the query block: the parity of the grid point. -/
theorem coord1 (t : Fin cfg0.N) : (grid0.coords t 1).val = t.val % 2 :=
  (by decide +kernel : ∀ t : Fin grid0.N, (grid0.coords t 1).val = t.val % 2) t

/-- The first query block stores the quotient of the near chunks. -/
theorem out_A (c : Dev nD) (t : Fin cfg0.N) (h0 : t.val % 2 = 0) :
    outsAt0 m c t.val t.isLt = k0_pay7 (F := Ideal) (L0 m c t (k0_pay13 (F := Ideal))) (A0 m c t (k0_pay13 (F := Ideal))) := by
  rw [outsAt0_A m c t h0 (by omega)]
  funext y
  frame_out
  change k0_pay7 (F:=Ideal) (st_k0_t2 (F:=Ideal) _ _ _ _ _ _ _ _ _ _ _ _ _ _ _ _ _ _ _ _ _ _ _ _ _ _ _ _ _ _ _ _ _ _ (k0_t2_loop _).trips).1 (st_k0_t2 (F:=Ideal) _ _ _ _ _ _ _ _ _ _ _ _ _ _ _ _ _ _ _ _ _ _ _ _ _ _ _ _ _ _ _ _ _ _ (k0_t2_loop _).trips).2 y = _
  rw [trips_2, st_k0_t2_zero]
  change k0_pay7 (F:=Ideal) (st_k0_t1 (F:=Ideal) _ _ _ _ _ _ _ _ _ _ _ _ _ _ _ _ _ _ _ _ _ _ _ _ _ _ _ _ _ _ _ _ _ _ (k0_t1_loop _).trips).1 (st_k0_t1 (F:=Ideal) _ _ _ _ _ _ _ _ _ _ _ _ _ _ _ _ _ _ _ _ _ _ _ _ _ _ _ _ _ _ _ _ _ _ (k0_t1_loop _).trips).2 y = _
  rw [trips_A _ ((coord1 t).trans h0), st_k0_t1_zero]
  rfl

/-- A state that moves by `F` at each of three trips. -/
theorem three_trips {P : Type} {N : ℕ} (hN : N = 3) (S : ℕ → P) (F : Fin N → P → P)
    (h : ∀ k : Fin N, S (k.val + 1) = F k (S k.val)) :
    S N = F ⟨2, by omega⟩ (F ⟨1, by omega⟩ (F ⟨0, by omega⟩ (S 0))) := by
  subst hN
  exact (h 2).trans (congrArg _ ((h 1).trans (congrArg _ (h 0))))

/-- The loop's three trips add the three far chunks. -/
theorem loop_B (c : Dev nD) (t : Fin cfg0.N) (h3 : (k0_t1_loop (grid0.coords t)).trips = 3)
    (s : Vec Ideal S1024x32 .f32) (p : FVec Ideal S1024x1 .f32 × FVec Ideal S1024x64 .f32) :
    st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _)
        (k0_pay12 (iblk m c 0 t)) s ((hs0_1 t).unread (iblk m c 1 t)) ((hs0_2 t).unread (iblk m c 2 t))
        ((hs0_6 t).unread (iblk m c 6 t)) p (k0_t1_loop (grid0.coords t)).trips
      = far m c t s ⟨2, by omega⟩ (far m c t s ⟨1, by omega⟩ (far m c t s ⟨0, by omega⟩ p)) := by
  refine three_trips h3 (st_k0_t1 (F:=Ideal) _ _ _ _ _ _ _ _ _ _ _ _ _ _ _ _ _ _ _ _ _ _ _ _ _ _ _ _ _ _ _ _ _ _)
      (far m c t s) fun k => ?_
  rw [st_k0_t1_succ]
  generalize st_k0_t1 (F := Ideal) _ _ _ _ _ _ _ _ _ _ _ _ _ _ _ _ _ _ _ _ _ _ _ _ _ _ _ _ _ _ _ _ _ _ _ = p'
  unfold tripR_k0_t1 trip_k0_t1
  dsimp only
  simp only [View.readAt_eq_ld, Memref.IsWhole.read_unread]
  unfold far
  rfl

/-- The denominators and numerators of the second query block, all its chunks added. -/
def endB (c : Dev nD) (t : Fin cfg0.N) (h3 : (k0_t1_loop (grid0.coords t)).trips = 3) :
    FVec Ideal S1024x1 .f32 × FVec Ideal S1024x64 .f32 :=
  far m c t (selB m c t) ⟨2, by omega⟩ (far m c t (selB m c t) ⟨1, by omega⟩
    (far m c t (selB m c t) ⟨0, by omega⟩ (L0 m c t (selB m c t), A0 m c t (selB m c t))))

/-- The second query block stores the quotient of the near chunks and the three far ones. -/
theorem out_B (c : Dev nD) (t : Fin cfg0.N) (h1 : t.val % 2 = 1)
    (h3 : (k0_t1_loop (grid0.coords t)).trips = 3) :
    outsAt0 m c t.val t.isLt = k0_pay7 (F := Ideal) (endB m c t h3).1 (endB m c t h3).2 := by
  rw [outsAt0_B m c t (by omega) h1]
  funext y
  frame_out
  change k0_pay7 (F:=Ideal) (st_k0_t2 (F:=Ideal) _ _ _ _ _ _ _ _ _ _ _ _ _ _ _ _ _ _ _ _ _ _ _ _ _ _ _ _ _ _ _ _ _ _ (k0_t2_loop _).trips).1 (st_k0_t2 (F:=Ideal) _ _ _ _ _ _ _ _ _ _ _ _ _ _ _ _ _ _ _ _ _ _ _ _ _ _ _ _ _ _ _ _ _ _ (k0_t2_loop _).trips).2 y = _
  rw [trips_2, st_k0_t2_zero]
  change k0_pay7 (F:=Ideal) (st_k0_t1 (F:=Ideal) _ _ _ _ _ _ _ _ _ _ _ _ _ _ _ _ _ _ _ _ _ _ _ _ _ _ _ _ _ _ _ _ _ _ (k0_t1_loop _).trips).1 (st_k0_t1 (F:=Ideal) _ _ _ _ _ _ _ _ _ _ _ _ _ _ _ _ _ _ _ _ _ _ _ _ _ _ _ _ _ _ _ _ _ _ (k0_t1_loop _).trips).2 y = _
  rw [loop_B m c t h3]
  rfl

end Cert.KernelIdeal.Body

end
-- ==== Proof.KChunk.lean ====
module

public import proofs.«01_k».proof.Proof.Spec
public import proofs.«01_k».proof.Proof.Soft
public import proofs.«01_k».proof.Proof.KTab
public import proofs.«01_k».proof.Proof.KBody

/-!
The weights of one chunk of 256 keys: at each grid point, each chunk's exponential is the
specification's weight of its key.
-/

@[expose] public section

set_option maxRecDepth 16384

noncomputable section

open scoped Classical

namespace Cert.KernelIdeal.Body

open Cert.Words Cert.Spec Cert.KernelIdeal Cert.KernelIdeal.Gen Idealize.ShloMosaic Idealize.ShloMosaic.TcCoe Idealize.SL.Sem

variable (m : (ℓ : Loc nD τ sig) → Buf (Elt Ideal) ℓ)

/-- Key `s` of chunk `k`. -/
def key (k : Fin 8) (s : Fin 256) : Fin 2048 := ⟨256 * k.val + s.val, by omega⟩

/-- A sum over all keys, chunk by chunk. -/
theorem sum_keys (f : Fin 2048 → EReal) : ∑ j, f j = ∑ k : Fin 8, ∑ s : Fin 256, f (key k s) := by
  rw [← Fintype.sum_prod_type']
  exact (Fintype.sum_equiv (finProdFinEquiv (m := 8) (n := 256)) _ _ fun p =>
    congrArg f (Fin.ext (by simp [key, finProdFinEquiv, add_comm]))).symm

/-- The queries of a head. -/
def qM (c : Dev nD) (h : Fin 12) : Mat := fun i d => m ((c : Thread nD τ).loc main_arg0) (ix4 0 h i d)
/-- The keys of a head. -/
def kM (c : Dev nD) (h : Fin 12) : Mat := fun i d => m ((c : Thread nD τ).loc main_arg1) (ix4 0 h i d)
/-- The values of a head. -/
def vM (c : Dev nD) (h : Fin 12) : Mat := fun i d => m ((c : Thread nD τ).loc main_arg2) (ix4 0 h i d)

/-- Entry `s` of chunk `k` of the keys or values is key `256 * k + s`. -/
theorem chunk_apply (X : Vec Ideal S1x2048x64 .f32) (off : Fin 3 → ℕ) (h) (k : Fin 8) (e : off = ![0, 256 * k.val, 0])
    (s : Fin 256) (d : Fin 64) : chunk X off h (ix3 0 s d) = X (ix3 0 (key k s) d) := by
  subst e
  refine congrArg X (funext fun a => Fin.ext ?_)
  match a with
  | ⟨0, _⟩ => rfl
  | ⟨1, _⟩ => exact congrArg (256 * k.val + ·) (one_mul s.val)
  | ⟨2, _⟩ => exact (Nat.zero_add _).trans (one_mul d.val)

/-- Layer `k` of a stack of tables, read at row `r` and key `s`. -/
theorem layer_apply (X : Vec Ideal S4x1024x256 .f32) (off : Fin 3 → ℕ) (h) (k : Fin 4) (e : off = ![k.val, 0, 0])
    (r : Fin 1024) (s : Fin 256) : layer X off h (ix3 0 r s) = X (ix3 k r s) := by
  subst e
  refine congrArg X (funext fun a => Fin.ext ?_)
  match a with
  | ⟨0, _⟩ => rfl
  | ⟨1, _⟩ => exact (Nat.zero_add _).trans (one_mul r.val)
  | ⟨2, _⟩ => exact (Nat.zero_add _).trans (one_mul s.val)

/-- Layer `k` of the spreading tables, read at block `b` and key `s`. -/
theorem spread_apply (X : Vec Ideal S8x32x256 .f32) (off : Fin 3 → ℕ) (h) (k : Fin 8) (e : off = ![k.val, 0, 0])
    (b : Fin 32) (s : Fin 256) : spread X off h (ix3 0 b s) = X (ix3 k b s) := by
  subst e
  refine congrArg X (funext fun a => Fin.ext ?_)
  match a with
  | ⟨0, _⟩ => rfl
  | ⟨1, _⟩ => exact (Nat.zero_add _).trans (one_mul b.val)
  | ⟨2, _⟩ => exact (Nat.zero_add _).trans (one_mul s.val)

/-- The scores of a chunk's keys. -/
theorem attC_eq (c : Dev nD) (t : Fin cfg0.N) (off : Fin 3 → ℕ) (h) (k : Fin 8) (e : off = ![0, 256 * k.val, 0])
    (r : Fin 1024) (s : Fin 256) :
    attC (k0_pay12 (F := Ideal) (iblk m c 0 t)) (chunk (iblk m c 1 t) off h) r s
      = att (qM m c (hd t)) (kM m c (hd t)) (qpos t r) (key k s) := by
  unfold attC att
  refine Finset.sum_congr rfl fun d _ => ?_
  rw [pay12_apply, chunk_apply _ off h k e, iblk0, iblk1]
  refine congrArg (fun z : EReal => _ * z * _) ?_
  exact bits_eighth

/-- The selection bias of a chunk's keys is that of their blocks. -/
theorem selC_eq (c : Dev nD) (t : Fin cfg0.N) (sb : Vec Ideal S1024x32 .f32) (off : Fin 3 → ℕ) (h) (k : Fin 8)
    (e : off = ![k.val, 0, 0]) (r : Fin 1024) (s : Fin 256) :
    selC sb (spread (iblk m c 6 t) off h) r s = sb (ix2 r (blockOf (key k s))) := by
  unfold selC
  have hb : ∀ b : Fin 32, sb (ix2 r b) * spread (iblk m c 6 t) off h (ix3 0 b s)
      = if b = blockOf (key k s) then (sb (ix2 r b) : EReal) else 0 := fun b => by
    rw [spread_apply _ off h k e, iblk6]
    have hbe : b.val = 4 * k.val + s.val / 64 ↔ b = blockOf (key k s) := by
      rw [Fin.ext_iff]; simp only [blockOf, key]; omega
    by_cases hk : b = blockOf (key k s)
    · rw [if_pos (hbe.mpr hk), if_pos hk]; exact mul_one _
    · rw [if_neg (fun g => hk (hbe.mp g)), if_neg hk]; exact mul_zero _
  exact (Finset.sum_congr rfl fun b _ => hb b).trans (by rw [Finset.sum_ite_eq', if_pos (Finset.mem_univ _)])

/-- An exponential with a bias of zero or minus infinity. -/
theorem exp_bias (x : EReal) (p : Prop) [Decidable p] :
    Ideal.exp (x + if p then (0 : EReal) else ⊥) = if p then Ideal.exp x else 0 := by
  split_ifs
  · rw [add_zero]
  · rw [EReal.add_bot]; rfl

/-- The larger of two biases lets through what either lets through. -/
theorem max_bias (p q : Prop) [Decidable p] [Decidable q] :
    max (if p then (0 : EReal) else ⊥) (if q then (0 : EReal) else ⊥) = if p ∨ q then (0 : EReal) else ⊥ := by
  by_cases hp : p <;> by_cases hq : q <;> simp [hp, hq]

/-- The sum of two biases lets through what both let through. -/
theorem add_bias (p q : Prop) [Decidable p] [Decidable q] :
    (if p then (0 : EReal) else ⊥) + (if q then (0 : EReal) else ⊥) = if p ∧ q then (0 : EReal) else ⊥ := by
  by_cases hp : p <;> by_cases hq : q <;> simp [hp, hq]

section weights

variable (c : Dev nD) (t : Fin cfg0.N) (r : Fin 1024) (sb : Vec Ideal S1024x32 .f32) (P : Fin 32 → Prop)
variable (hs : ∀ b : Fin 32, sb (ix2 r b) = if P b then (0 : EReal) else ⊥)
variable (hP : ∀ j : Fin 2048, j.val ≤ (qpos t r).val →
  (P (blockOf j) ↔ rank (visible (qM m c (hd t)) (kM m c (hd t)) (qpos t r)) (blockOf j) < 16))

/-- The weight of key `j` for row `r` of the grid point. -/
abbrev wt (j : Fin 2048) : EReal := weight (qM m c (hd t)) (kM m c (hd t)) (qpos t r) j

/-- The chunk of the grid point's own query block, by its place among the four. -/
def own (t : Fin cfg0.N) (k : Fin 4) : Fin 8 := ⟨4 * (t.val % 2) + k.val, by omega⟩

/-- The last chunk of the query block, entirely inside the window. -/
theorem last_weight (off o7 : Fin 3 → ℕ) (h h7) (e : off = ![0, 1024 * (grid0.coords t 1).val + 768, 0])
    (e7 : o7 = ![3, 0, 0]) (s : Fin 256) :
    Ideal.exp (attC (k0_pay12 (F := Ideal) (iblk m c 0 t)) (chunk (iblk m c 1 t) off h) r s
        + layer (iblk m c 7 t) o7 h7 (ix3 0 r s)) = wt m c t r (key (own t 3) s) := by
  have e' : off = ![0, 256 * (own t 3).val, 0] := by
    rw [e, coord1]
    have : 1024 * (t.val % 2) + 768 = 256 * (own t 3).val := by simp only [own]; omega
    rw [this]
  rw [attC_eq m c t off h (own t 3) e', layer_apply _ o7 h7 3 e7, iblk7, exp_bias]
  unfold wt weight
  refine if_congr ?_ rfl rfl
  unfold seen
  simp only [own, key, qpos, Fin.val_natCast, Fin.isValue, show (3 : Fin 4).val = 3 from rfl]
  omega

include hs hP in
/-- A chunk of the query block, bounded by the causal table and by the window or the selection. -/
theorem near_weight (k : Fin 4) (o7 o8 o6 o1 : Fin 3 → ℕ) (h7 h8 h6 h1) (e7 : o7 = ![k.val, 0, 0]) (e8 : o8 = ![k.val, 0, 0])
    (e6 : o6 = ![4 * (grid0.coords t 1).val + k.val, 0, 0])
    (e1 : o1 = ![0, 1024 * (grid0.coords t 1).val + 256 * k.val, 0]) (s : Fin 256) :
    wW (k0_pay12 (F := Ideal) (iblk m c 0 t)) sb (layer (iblk m c 7 t) o7 h7) (layer (iblk m c 8 t) o8 h8)
        (spread (iblk m c 6 t) o6 h6) (chunk (iblk m c 1 t) o1 h1) r s = wt m c t r (key (own t k) s) := by
  have e1' : o1 = ![0, 256 * (own t k).val, 0] := by
    rw [e1, coord1]
    have : 1024 * (t.val % 2) + 256 * k.val = 256 * (own t k).val := by simp only [own]; omega
    rw [this]
  have e6' : o6 = ![(own t k).val, 0, 0] := by rw [e6, coord1]; rfl
  unfold wW
  rw [attC_eq m c t o1 h1 (own t k) e1', layer_apply _ o7 h7 k e7, layer_apply _ o8 h8 k e8, iblk7, iblk8,
    selC_eq m c t sb o6 h6 (own t k) e6', hs, max_bias, add_bias, exp_bias]
  unfold wt weight
  refine if_congr ?_ rfl rfl
  unfold seen
  have hj : s.val + 256 * k.val ≤ r.val ↔ (key (own t k) s).val ≤ (qpos t r).val := by
    simp only [own, key, qpos]; omega
  have hw : r.val < s.val + 256 * k.val + 256 ↔ (qpos t r).val < (key (own t k) s).val + 256 := by
    simp only [own, key, qpos]; omega
  rw [hj, hw]
  refine and_congr_right fun g => ?_
  rw [hP _ g]
  exact or_comm

include hs hP in
/-- The chunk before the query block's, for the second query block. -/
theorem prev_weight (h1' : t.val % 2 = 1) (o4 o5 : Fin 3 → ℕ) (h4 h5) (e4 : o4 = ![3, 0, 0]) (e5 : o5 = ![0, 768, 0])
    (s : Fin 256) :
    wP (BitVec.ofNat 32 (grid0.coords t 1).val) (k0_pay12 (F := Ideal) (iblk m c 0 t)) sb (spread (iblk m c 6 t) o4 h4)
      (iblk m c 9 t) (chunk (iblk m c 1 t) o5 h5) r s = wt m c t r (key 3 s) := by
  have hc : Scalar.cmpi .sge (BitVec.ofNat 32 (grid0.coords t 1).val) 1#32 = 1#1 := by
    rw [coord1, h1']; decide
  unfold wP
  rw [attC_eq m c t o5 h5 3 e5, selC_eq m c t sb o4 h4 3 e4, hs, iblk9, if_pos hc, add_zero, max_bias, exp_bias]
  unfold wt weight
  refine if_congr ?_ rfl rfl
  unfold seen
  have hj : (key 3 s).val ≤ (qpos t r).val := by
    simp only [key, qpos, show (3 : Fin 8).val = 3 from rfl]; omega
  have hw : r.val < s.val ↔ (qpos t r).val < (key 3 s).val + 256 := by
    simp only [key, qpos, show (3 : Fin 8).val = 3 from rfl]; omega
  rw [hP _ hj, hw]
  exact (and_iff_right hj).symm

/-- For the first query block there is no such chunk: its weights are zero. -/
theorem prev_zero (h0 : t.val % 2 = 0) (v4 K E) (s : Fin 256) :
    wP (BitVec.ofNat 32 (grid0.coords t 1).val) v4 sb E (iblk m c 9 t) K r s = 0 := by
  have hc : ¬ Scalar.cmpi .sge (BitVec.ofNat 32 (grid0.coords t 1).val) 1#32 = 1#1 := by
    rw [coord1, h0]; decide
  unfold wP
  rw [if_neg hc, EReal.add_bot, EReal.add_bot]
  rfl

include hs hP in
/-- A far chunk of the second query block. -/
theorem far_weight (h1' : t.val % 2 = 1) (k : Fin 8) (hk : k.val < 3) (o6 o7 : Fin 3 → ℕ) (h6 h7) (e6 : o6 = ![k.val, 0, 0])
    (e7 : o7 = ![0, 256 * k.val, 0]) (s : Fin 256) :
    Ideal.exp (attC (k0_pay12 (F := Ideal) (iblk m c 0 t)) (chunk (iblk m c 1 t) o7 h7) r s
        + selC sb (spread (iblk m c 6 t) o6 h6) r s) = wt m c t r (key k s) := by
  rw [attC_eq m c t o7 h7 k e7, selC_eq m c t sb o6 h6 k e6, hs, exp_bias]
  unfold wt weight
  refine if_congr ?_ rfl rfl
  unfold seen
  have hj : (key k s).val ≤ (qpos t r).val := by simp only [key, qpos]; omega
  have hw : ¬ (qpos t r).val < (key k s).val + 256 := by simp only [key, qpos]; omega
  rw [hP _ hj]
  exact ⟨fun g => ⟨hj, Or.inl g⟩, fun g => g.2.resolve_right hw⟩

/-- The first query block sees none of the keys of the later chunks. -/
theorem late_zero (h0 : t.val % 2 = 0) (k : Fin 8) (hk : 4 ≤ k.val) (s : Fin 256) : wt m c t r (key k s) = 0 := by
  unfold wt weight
  refine if_neg fun g => ?_
  have := g.1
  simp only [key, qpos] at this
  omega

end weights

end Cert.KernelIdeal.Body

end
-- ==== Proof.KRank.lean ====
module

public import proofs.«01_k».proof.Proof.Rank
public import proofs.«01_k».proof.Proof.KChunk

/-!
The kernel's ranking of the blocks: the 496 pairs of blocks, each compared once, added up with signs.
-/

@[expose] public section

set_option maxRecDepth 16384

noncomputable section

open scoped Classical

namespace Cert.KernelIdeal.Body

open Cert.Words Cert.Spec Cert.KernelIdeal Cert.KernelIdeal.Gen Idealize.ShloMosaic Idealize.ShloMosaic.TcCoe Idealize.SL.Sem

variable (m : (ℓ : Loc nD τ sig) → Buf (Elt Ideal) ℓ)

/-- Which blocks a pair compares; a padding pair compares none. -/
theorem lits : ∀ p : Fin 512, (p.val < 496 → (lit0 p).toNat < (lit1 p).toNat ∧ (lit1 p).toNat < 32)
    ∧ (496 ≤ p.val → (lit0 p).toNat = 32 ∧ (lit1 p).toNat = 32) := by
  decide +kernel

/-- The place of a pair of blocks in the list of pairs. -/
def place (w v : Fin 32) : Fin 512 := ⟨(w.val * (63 - w.val) / 2 + (v.val - w.val - 1)) % 512, Nat.mod_lt _ (by decide)⟩

/-- The pair at the place of `w < v` is that pair, and its place is among the first 496. -/
theorem place_lits : ∀ w v : Fin 32, w < v →
    (place w v).val < 496 ∧ (lit0 (place w v)).toNat = w.val ∧ (lit1 (place w v)).toNat = v.val := by
  decide +kernel

/-- The place of the pair at `p` is `p`. -/
theorem lits_place : ∀ p : Fin 512, p.val < 496 →
    (place ⟨(lit0 p).toNat % 32, Nat.mod_lt _ (by decide)⟩ ⟨(lit1 p).toNat % 32, Nat.mod_lt _ (by decide)⟩).val = p.val := by
  decide +kernel

/-- A sum over the list of pairs is the sum over the pairs of blocks. -/
theorem sum_pairs (f : Fin 32 → Fin 32 → ℤ) :
    (∑ p : Fin 512, if p.val < 496 then
        f ⟨(lit0 p).toNat % 32, Nat.mod_lt _ (by decide)⟩ ⟨(lit1 p).toNat % 32, Nat.mod_lt _ (by decide)⟩ else 0)
      = ∑ w : Fin 32, ∑ v : Fin 32, if w < v then f w v else 0 := by
  rw [← Fintype.sum_prod_type', ← Finset.sum_filter, ← Finset.sum_filter]
  refine Finset.sum_bij' (fun p _ => (⟨(lit0 p).toNat % 32, Nat.mod_lt _ (by decide)⟩, ⟨(lit1 p).toNat % 32, Nat.mod_lt _ (by decide)⟩))
    (fun q _ => place q.1 q.2) ?_ ?_ ?_ ?_ ?_
  · intro p hp
    have hp' : p.val < 496 := (Finset.mem_filter.mp hp).2
    have := (lits p).1 hp'
    refine Finset.mem_filter.mpr ⟨Finset.mem_univ _, ?_⟩
    change (lit0 p).toNat % 32 < (lit1 p).toNat % 32
    omega
  · intro q hq
    exact Finset.mem_filter.mpr ⟨Finset.mem_univ _, (place_lits q.1 q.2 (Finset.mem_filter.mp hq).2).1⟩
  · intro p hp
    exact Fin.ext (lits_place p (Finset.mem_filter.mp hp).2)
  · intro q hq
    have := place_lits q.1 q.2 (Finset.mem_filter.mp hq).2
    refine Prod.ext (Fin.ext ?_) (Fin.ext ?_)
    · change (lit0 (place q.1 q.2)).toNat % 32 = _; omega
    · change (lit1 (place q.1 q.2)).toNat % 32 = _; omega
  · intro p hp; rfl

/-- The value that the kernel ranks: the block score, minus infinity where the block begins after the query. -/
def xs (a : BitVec 32) (Q : FVec Ideal S1024x64 .f32) (K : Vec Ideal S1x2048x64 .f32) (r : Fin 1024) (b : Fin 32) : EReal :=
  Scalar.select (k0_pay8 a (ix2 r b))
    (∑ d : Fin 64, Q (ix2 r d) * Ideal.div (∑ s : Fin 64, K (ix3 0 ⟨b.val * 64 + s.val, by omega⟩ d))
      (Ideal.ofBits .f32 0x42800000#32))
    (Named.named (F := Ideal) (φ := .f32) κ "mask" 0xF149F2CA#32)

/-- A column of comparisons' inputs: the value spread by a table of zeros and ones, in three terms. -/
def pick (x : Fin 32 → EReal) (E : Fin 32 → EReal) : EReal :=
  (∑ b, x b * E b) + (∑ b, (x b - x b) * E b) + ∑ b, (x b - x b - (x b - x b)) * E b

/-- The comparison bit of a pair: whether the first block scores below the second. -/
theorem pay9_apply (a Q K E E') (r : Fin 1024) (p : Fin 512) :
    k0_pay9 (F := Ideal) a Q K E E' (ix2 r p)
      = BitVec.ofBool (decide (pick (xs a Q K r) (fun b => E (ix2 b p)) < pick (xs a Q K r) (fun b => E' (ix2 b p)))) := by
  pointwise [k0_pay9]
  exact congrArg BitVec.ofBool (decide_eq_decide.mpr Iff.rfl)

/-- The selection bias of a block, in terms of the entries of its inputs. -/
theorem pay14_apply (v201 v204 v227 z ones M) (r : Fin 1024) (b : Fin 32) :
    k0_pay14 (F := Ideal) v201 v204 v227 z ones M (ix2 r b)
      = Scalar.select (IntOp.andi (v204 (ix2 r b)) (BitVec.ofBool (decide
          ((∑ p : Fin 512, Scalar.select (v227 (ix2 r p)) (ones (ix2 r p)) z * M (ix2 p b) : EReal)
            < (((IntOp.subi 16#32 (v201 (ix2 r b))).toInt : ℝ) : EReal)))))
        (0 : EReal) (Named.named (F := Ideal) (φ := .f32) κ "mask" 0xF149F2CA#32) := by
  pointwise [k0_pay14]
  exact congrArg (fun z => Scalar.select (IntOp.andi _ (BitVec.ofBool z)) _ _) (decide_eq_decide.mpr Iff.rfl)

/-- The bit that says block `b` starts at or before the query of row `r`. -/
theorem pay8_apply (a) (r : Fin 1024) (b : Fin 32) :
    k0_pay8 a (ix2 r b) = IntOp.cmpi .sle (IntOp.muli (BitVec.ofNat 32 b.val) 64#32)
      (IntOp.addi (Scalar.muli a 1024#32) (BitVec.ofNat 32 r.val)) := by
  pointwise [k0_pay8]

/-- The named mask constant stands for `-∞`. -/
theorem mask_bot : (Named.named (F := Ideal) (φ := .f32) κ "mask" 0xF149F2CA#32 : EReal) = ⊥ := rfl

/-- The block visibility bit. -/
theorem vis_bit (t : Fin cfg0.N) (r : Fin 1024) (b : Fin 32) :
    k0_pay8 (BitVec.ofNat 32 (grid0.coords t 1).val) (ix2 r b)
      = BitVec.ofBool (decide (64 * b.val ≤ (qpos t r).val)) := by
  rw [pay8_apply, coord1]
  have e : IntOp.addi (Scalar.muli (BitVec.ofNat 32 (t.val % 2)) 1024#32) (BitVec.ofNat 32 r.val)
      = BitVec.ofNat 32 (1024 * (t.val % 2) + r.val) := by
    refine Eq.trans (congrArg (IntOp.addi · _) (muli_ofNat (t.val % 2) 1024)) ?_
    rw [addi_ofNat, mul_comm]
  rw [e, show (64#32) = BitVec.ofNat 32 64 from rfl, muli_ofNat]
  simp only [IntOp.cmpi]
  refine congrArg BitVec.ofBool ?_
  rw [Bool.eq_iff_iff, decide_eq_true_iff, BitVec.sle_iff_toInt_le, toInt_ofNat _ (by omega), toInt_ofNat _ (by omega)]
  simp only [qpos]
  omega

/-- What the kernel ranks is the specification's visible block score. -/
theorem xs_eq (c : Dev nD) (t : Fin cfg0.N) (r : Fin 1024) (b : Fin 32) :
    xs (BitVec.ofNat 32 (grid0.coords t 1).val) (k0_pay11 (F := Ideal) (iblk m c 0 t)) (iblk m c 1 t) r b
      = visible (qM m c (hd t)) (kM m c (hd t)) (qpos t r) b := by
  unfold xs visible
  rw [vis_bit, select_ofBool, mask_bot]
  simp only [decide_eq_true_iff]
  refine if_congr Iff.rfl ?_ rfl
  unfold score mean
  refine Finset.sum_congr rfl fun d _ => congrArg₂ (· * ·) ?_ (congrArg₂ Ideal.div (Finset.sum_congr rfl fun s _ => ?_) bits_64)
  · have : k0_pay11 (F := Ideal) (iblk m c 0 t) (ix2 r d) = iblk m c 0 t (ix3 0 r d) := by pointwise [k0_pay11]
    exact this.trans (iblk0 m c t r d)
  · refine (iblk1 m c t _ d).trans ?_
    refine congrArg (fun j => kM m c (hd t) j d) (Fin.ext ?_)
    simp only [at64]; omega

/-- Spreading by the indicator of `u` picks the value at `u`. -/
theorem pick_one (x : Fin 32 → EReal) (hx : ∀ b, x b = ⊥ ∨ ∃ y : ℝ, x b = (y : EReal)) (u : Fin 32) (E : Fin 32 → EReal)
    (hE : ∀ b, E b = if b = u then 1 else 0) : pick x E = x u := by
  have h : ∀ f : Fin 32 → EReal, (∑ b, f b * E b) = f u := fun f => by
    simp only [hE, mul_ite, mul_one, mul_zero, Finset.sum_ite_eq', Finset.mem_univ, if_true]
  unfold pick
  rw [h, h (fun b => x b - x b), h (fun b => x b - x b - (x b - x b))]
  rcases hx u with e | ⟨y, e⟩
  · rw [e]; simp
  · rw [e, ← EReal.coe_sub, sub_self, ← EReal.coe_sub, sub_self, EReal.coe_zero, add_zero, add_zero]

/-- The signed sum of the comparisons is the rank less the block's number. -/
theorem signed_sum (c : Dev nD) (t : Fin cfg0.N) (x : Fin 32 → EReal) (hx : ∀ b, x b = ⊥ ∨ ∃ y : ℝ, x b = (y : EReal))
    (u : Fin 32) :
    (∑ p : Fin 512, (if pick x (fun b => iblk m c 3 t (ix2 b p)) < pick x (fun b => iblk m c 4 t (ix2 b p)) then (1 : EReal) else 0)
        * iblk m c 5 t (ix2 p u))
      = ((((rank x u : ℤ) - (u.val : ℤ) : ℤ) : ℝ) : EReal) := by
  rw [← signed_wins x u, ← sum_pairs (fun w v => (if x w < x v then (1 : ℤ) else 0) * (if u = w then 1 else if u = v then -1 else 0)),
    Int.cast_sum, coe_sum]
  refine Finset.sum_congr rfl fun p _ => ?_
  have hof : ∀ (b : Fin 32) (w : BitVec 32), w.toNat < 32 → (BitVec.ofNat 32 b.val = w ↔ b = ⟨w.toNat % 32, Nat.mod_lt _ (by decide)⟩) := by
    intro b w hw
    rw [Fin.ext_iff, ← BitVec.toNat_inj, BitVec.toNat_ofNat]
    simp only
    omega
  rw [iblk5]
  by_cases hp : p.val < 496
  · obtain ⟨h1, h2⟩ := (lits p).1 hp
    rw [if_pos hp, pick_one x hx ⟨(lit0 p).toNat % 32, Nat.mod_lt _ (by decide)⟩ _
        (fun b => (iblk3 m c t b p).trans (if_congr (hof b _ (by omega)) rfl rfl)),
      pick_one x hx ⟨(lit1 p).toNat % 32, Nat.mod_lt _ (by decide)⟩ _
        (fun b => (iblk4 m c t b p).trans (if_congr (hof b _ (by omega)) rfl rfl))]
    rw [if_congr (hof u _ (by omega)) rfl (if_congr (hof u _ (by omega)) rfl rfl)]
    split_ifs <;> simp
  · obtain ⟨h1, h2⟩ := (lits p).2 (by omega)
    have hne : ∀ (b : Fin 32) (w : BitVec 32), w.toNat = 32 → ¬ BitVec.ofNat 32 b.val = w := by
      intro b w hw e
      rw [← e, BitVec.toNat_ofNat] at hw
      omega
    rw [if_neg hp, if_neg (hne u _ h1), if_neg (hne u _ h2), mul_zero]
    simp

/-- The selection bias of the second query block: zero exactly at the visible blocks of rank below sixteen. -/
theorem selB_apply (c : Dev nD) (t : Fin cfg0.N) (r : Fin 1024) (b : Fin 32)
    (hx : ∀ b, visible (qM m c (hd t)) (kM m c (hd t)) (qpos t r) b = ⊥
      ∨ ∃ y : ℝ, visible (qM m c (hd t)) (kM m c (hd t)) (qpos t r) b = (y : EReal)) :
    selB m c t (ix2 r b) = if 64 * b.val ≤ (qpos t r).val
        ∧ rank (visible (qM m c (hd t)) (kM m c (hd t)) (qpos t r)) b < 16 then (0 : EReal) else ⊥ := by
  unfold selB
  rw [pay14_apply, vis_bit, mask_bot]
  have hxs : xs (BitVec.ofNat 32 (grid0.coords t 1).val) (k0_pay11 (F := Ideal) (iblk m c 0 t)) (iblk m c 1 t) r
      = visible (qM m c (hd t)) (kM m c (hd t)) (qpos t r) := funext fun b => xs_eq m c t r b
  have hsum : (∑ p : Fin 512, Scalar.select
        (k0_pay9 (F := Ideal) (BitVec.ofNat 32 (grid0.coords t 1).val) (k0_pay11 (iblk m c 0 t)) (iblk m c 1 t) (iblk m c 3 t)
          (iblk m c 4 t) (ix2 r p)) (k0_pay10 (F := Ideal) (ix2 r p)) (FloatOps.ofBits (F := Ideal) FTy.f32 0#32)
        * iblk m c 5 t (ix2 p b) : EReal)
      = ((((rank (visible (qM m c (hd t)) (kM m c (hd t)) (qpos t r)) b : ℤ) - (b.val : ℤ) : ℤ) : ℝ) : EReal) := by
    rw [← signed_sum m c t _ hx b]
    refine Finset.sum_congr rfl fun p _ => ?_
    rw [pay9_apply, hxs, select_ofBool]
    refine congrArg (· * _) ?_
    simp only [decide_eq_true_iff]
    refine if_congr Iff.rfl ?_ Ideal.ofBits_zero_f32
    have : k0_pay10 (F := Ideal) (ix2 r p) = Ideal.ofBits .f32 0x3F800000#32 := by pointwise [k0_pay10]
    rw [this]
    exact Ideal.ofBits_one_f32
  have hi : (IntOp.subi 16#32 (iota Kind.tc S1024x32 32 [1] iota_S1024x32_d1_w32 (ix2 r b))).toInt = 16 - (b.val : ℤ) := by
    have : iota Kind.tc S1024x32 32 [1] iota_S1024x32_d1_w32 (ix2 r b) = BitVec.ofNat 32 b.val := by pointwise
    rw [this]
    exact toInt_sub 16 b.val (by omega) (by omega)
  rw [hi, hsum]
  have hlt : ((((rank (visible (qM m c (hd t)) (kM m c (hd t)) (qpos t r)) b : ℤ) - (b.val : ℤ) : ℤ) : ℝ) : EReal)
      < ((((16 - (b.val : ℤ) : ℤ)) : ℝ) : EReal) ↔ rank (visible (qM m c (hd t)) (kM m c (hd t)) (qpos t r)) b < 16 := by
    rw [EReal.coe_lt_coe_iff, Int.cast_lt]; omega
  have hdec : decide (((((rank (visible (qM m c (hd t)) (kM m c (hd t)) (qpos t r)) b : ℤ) - (b.val : ℤ) : ℤ) : ℝ) : EReal)
      < ((((16 - (b.val : ℤ) : ℤ)) : ℝ) : EReal))
      = decide (rank (visible (qM m c (hd t)) (kM m c (hd t)) (qpos t r)) b < 16) := decide_eq_decide.mpr hlt
  rw [hdec]
  by_cases h1 : 64 * b.val ≤ (qpos t r).val <;>
    by_cases h2 : rank (visible (qM m c (hd t)) (kM m c (hd t)) (qpos t r)) b < 16 <;> simp [h1, h2] <;> rfl

end Cert.KernelIdeal.Body

end
-- ==== Proof.KOut.lean ====
module

public import proofs.«01_k».proof.Proof.KChunk

/-!
What a grid point stores is the specification's attention, given its selection bias: the chunks' sums
make up the sums over all keys.
-/

@[expose] public section

set_option maxRecDepth 16384

noncomputable section

open scoped Classical

namespace Cert.KernelIdeal.Body

open Cert.Words Cert.Spec Cert.KernelIdeal Cert.KernelIdeal.Gen Idealize.ShloMosaic Idealize.ShloMosaic.TcCoe Idealize.SL.Sem

variable (m : (ℓ : Loc nD τ sig) → Buf (Elt Ideal) ℓ)
variable (c : Dev nD) (t : Fin cfg0.N) (r : Fin 1024) (sb : Vec Ideal S1024x32 .f32) (P : Fin 32 → Prop)
variable (hs : ∀ b : Fin 32, sb (ix2 r b) = if P b then (0 : EReal) else ⊥)
variable (hP : ∀ j : Fin 2048, j.val ≤ (qpos t r).val →
  (P (blockOf j) ↔ rank (visible (qM m c (hd t)) (kM m c (hd t)) (qpos t r)) (blockOf j) < 16))

/-- The values of a chunk. -/
theorem val_apply (off : Fin 3 → ℕ) (h) (k : Fin 8) (e : off = ![0, 256 * k.val, 0]) (s : Fin 256) (d : Fin 64) :
    chunk (iblk m c 2 t) off h (ix3 0 s d) = vM m c (hd t) (key k s) d :=
  (chunk_apply _ off h k e s d).trans (iblk2 m c t (key k s) d)

/-- The summed weights of one chunk. -/
def lsum (k : Fin 8) : EReal := ∑ s : Fin 256, wt m c t r (key k s)
/-- The weighted values of one chunk, summed. -/
def asum (e : Fin 64) (k : Fin 8) : EReal := ∑ s : Fin 256, wt m c t r (key k s) * vM m c (hd t) (key k s) e

/-- Where the last of the four chunks of the query block starts. -/
theorem own_off1 : k0_off1 (grid0.coords t) = ![0, 256 * (own t 3).val, 0] := by
  rw [k0_off1_eq, coord1]
  have : 1024 * (t.val % 2) + 768 = 256 * (own t 3).val := by simp only [own]; omega
  rw [this]

/-- Where each of the first three chunks of the query block starts. -/
theorem own_off3 (k : Fin 3) : k0_off3 (grid0.coords t) (BitVec.ofNat 32 k.val) = ![0, 256 * (own t k.castSucc).val, 0] := by
  rw [k0_off3_eq, coord1]
  have : 1024 * (t.val % 2) + 256 * k.val = 256 * (own t k.castSucc).val := by simp only [own, Fin.val_castSucc]; omega
  rw [this]

include hs hP in
/-- The denominators after the near chunks: the four chunks of the query block and the one before. -/
theorem L0_apply : L0 m c t sb (ix2 r 0) = (lsum m c t r (own t 3) + lsum m c t r (own t 2))
    + lsum m c t r (own t 1) + lsum m c t r (own t 0)
    + ∑ s : Fin 256, wP (BitVec.ofNat 32 (grid0.coords t 1).val) (k0_pay12 (F := Ideal) (iblk m c 0 t)) sb
        (spread (iblk m c 6 t) (k0_off4 (grid0.coords t)) (k0_off4_inb _)) (iblk m c 9 t)
        (chunk (iblk m c 1 t) (k0_off5 (grid0.coords t)) (k0_off5_inb _)) r s := by
  unfold L0
  rw [pay32_apply, pay29_apply, pay27_apply, pay23_apply, pay19_apply]
  refine congrArg₂ (· + ·) (congrArg₂ (· + ·) (congrArg₂ (· + ·) (congrArg₂ (· + ·) ?_ ?_) ?_) ?_) rfl
  · exact Finset.sum_congr rfl fun s _ => last_weight m c t r _ _ _ _ (k0_off1_eq _) rfl s
  · exact Finset.sum_congr rfl fun s _ => (pay22_apply _ _ _ _ _ _ r s).trans
      (near_weight m c t r sb P hs hP 2 _ _ _ _ _ _ _ _ rfl rfl (k0_off2_eq _ 2) (k0_off3_eq _ 2) s)
  · exact Finset.sum_congr rfl fun s _ =>
      near_weight m c t r sb P hs hP 1 _ _ _ _ _ _ _ _ rfl rfl (k0_off2_eq _ 1) (k0_off3_eq _ 1) s
  · exact Finset.sum_congr rfl fun s _ =>
      near_weight m c t r sb P hs hP 0 _ _ _ _ _ _ _ _ rfl rfl (k0_off2_eq _ 0) (k0_off3_eq _ 0) s

include hs hP in
/-- The numerators after the near chunks. -/
theorem A0_apply (e : Fin 64) : A0 m c t sb (ix2 r e) = (asum m c t r e (own t 3) + asum m c t r e (own t 2))
    + asum m c t r e (own t 1) + asum m c t r e (own t 0)
    + ∑ s : Fin 256, wP (BitVec.ofNat 32 (grid0.coords t 1).val) (k0_pay12 (F := Ideal) (iblk m c 0 t)) sb
        (spread (iblk m c 6 t) (k0_off4 (grid0.coords t)) (k0_off4_inb _)) (iblk m c 9 t)
        (chunk (iblk m c 1 t) (k0_off5 (grid0.coords t)) (k0_off5_inb _)) r s
        * chunk (iblk m c 2 t) (k0_off5 (grid0.coords t)) (k0_off5_inb _) (ix3 0 s e) := by
  unfold A0
  rw [pay33_apply, pay30_apply, pay24_apply, pay20_apply]
  refine congrArg₂ (· + ·) (congrArg₂ (· + ·) (congrArg₂ (· + ·) (congrArg₂ (· + ·) ?_ ?_) ?_) ?_) rfl
  · exact Finset.sum_congr rfl fun s _ => congrArg₂ (· * ·)
      (last_weight m c t r _ _ _ _ (k0_off1_eq _) rfl s) (val_apply m c t _ _ (own t 3) (own_off1 t) s e)
  · exact Finset.sum_congr rfl fun s _ => congrArg₂ (· * ·) ((pay22_apply _ _ _ _ _ _ r s).trans
      (near_weight m c t r sb P hs hP 2 _ _ _ _ _ _ _ _ rfl rfl (k0_off2_eq _ 2) (k0_off3_eq _ 2) s))
      (val_apply m c t _ _ (own t 2) (own_off3 t 2) s e)
  · exact Finset.sum_congr rfl fun s _ => congrArg₂ (· * ·) ((pay26_apply _ _ _ _ _ _ r s).trans
      (near_weight m c t r sb P hs hP 1 _ _ _ _ _ _ _ _ rfl rfl (k0_off2_eq _ 1) (k0_off3_eq _ 1) s))
      (val_apply m c t _ _ (own t 1) (own_off3 t 1) s e)
  · exact Finset.sum_congr rfl fun s _ => congrArg₂ (· * ·)
      (near_weight m c t r sb P hs hP 0 _ _ _ _ _ _ _ _ rfl rfl (k0_off2_eq _ 0) (k0_off3_eq _ 0) s)
      (val_apply m c t _ _ (own t 0) (own_off3 t 0) s e)

/-- Where the chunk before the second query block starts, and its layer of the spreading table. -/
theorem off_prev (i : grid0.Coords) (h : (i 1).val = 1) : k0_off4 i = ![3, 0, 0] ∧ k0_off5 i = ![0, 768, 0] := by
  have : ∀ i : grid0.Coords, (i 1).val = 1 → k0_off4 i = ![3, 0, 0] ∧ k0_off5 i = ![0, 768, 0] := by decide +kernel
  exact this i h

/-- Where the chunk of a trip of the loop starts, and its layer of the spreading table; there are at most three trips. -/
theorem off_far (i : grid0.Coords) (k : Fin (k0_t1_loop i).trips) :
    k.val < 3 ∧ k0_off6 i k = ![k.val, 0, 0] ∧ k0_off7 i k = ![0, 256 * k.val, 0] := by
  have : ∀ (i : grid0.Coords) (k : Fin (k0_t1_loop i).trips),
      k.val < 3 ∧ k0_off6 i k = ![k.val, 0, 0] ∧ k0_off7 i k = ![0, 256 * k.val, 0] := by decide +kernel
  exact this i k

/-- The chunk of a trip of the loop. -/
def trip (k : Fin (k0_t1_loop (grid0.coords t)).trips) : Fin 8 := ⟨k.val, by have := (off_far _ k).1; omega⟩

include hs hP in
/-- A trip of the loop adds the summed weights of its chunk. -/
theorem far_l (h1 : t.val % 2 = 1) (k) (p : FVec Ideal S1024x1 .f32 × FVec Ideal S1024x64 .f32) :
    (far m c t sb k p).1 (ix2 r 0) = p.1 (ix2 r 0) + lsum m c t r (trip t k) := by
  unfold far
  dsimp only
  rw [pay2_apply]
  refine congrArg₂ (· + ·) rfl (Finset.sum_congr rfl fun s _ => ?_)
  exact far_weight m c t r sb P hs hP h1 (trip t k) (off_far _ k).1 _ _ _ _ (off_far _ k).2.1 (off_far _ k).2.2 s

include hs hP in
/-- A trip of the loop adds the weighted values of its chunk. -/
theorem far_a (h1 : t.val % 2 = 1) (k) (p : FVec Ideal S1024x1 .f32 × FVec Ideal S1024x64 .f32) (e : Fin 64) :
    (far m c t sb k p).2 (ix2 r e) = p.2 (ix2 r e) + asum m c t r e (trip t k) := by
  unfold far
  dsimp only
  rw [pay3_apply]
  refine congrArg₂ (· + ·) rfl (Finset.sum_congr rfl fun s _ => congrArg₂ (· * ·) ?_ ?_)
  · exact far_weight m c t r sb P hs hP h1 (trip t k) (off_far _ k).1 _ _ _ _ (off_far _ k).2.1 (off_far _ k).2.2 s
  · exact val_apply m c t _ _ (trip t k) (off_far _ k).2.2 s e

/-- The specification's result for row `r` of the grid point. -/
abbrev goal (e : Fin 64) : EReal := out (qM m c (hd t)) (kM m c (hd t)) (vM m c (hd t)) (qpos t r) e

/-- The specification's result is the weighted values summed chunk by chunk, over the weights summed chunk by chunk. -/
theorem goal_eq (e : Fin 64) : goal m c t r e = Ideal.div (∑ k : Fin 8, asum m c t r e k) (∑ k : Fin 8, lsum m c t r k) := by
  unfold goal out
  rw [sum_keys, sum_keys]
  rfl

include hs hP in
/-- The first query block's rows. -/
theorem row_A (h0 : t.val % 2 = 0) (e : Fin 64) :
    Ideal.div (A0 m c t sb (ix2 r e)) (L0 m c t sb (ix2 r 0)) = goal m c t r e := by
  have hl : ∀ k : Fin 8, 4 ≤ k.val → lsum m c t r k = 0 := fun k hk =>
    Finset.sum_eq_zero fun s _ => late_zero m c t r h0 k hk s
  have hA : ∀ k : Fin 8, 4 ≤ k.val → asum m c t r e k = 0 := fun k hk =>
    Finset.sum_eq_zero fun s _ => by rw [late_zero m c t r h0 k hk s, zero_mul]
  have ho : ∀ k : Fin 4, own t k = ⟨k.val, by omega⟩ := fun k => Fin.ext (by simp only [own]; omega)
  rw [goal_eq, L0_apply m c t r sb P hs hP, A0_apply m c t r sb P hs hP]
  rw [Finset.sum_eq_zero (fun s _ => prev_zero m c t r sb h0 _ _ _ s),
    Finset.sum_eq_zero (fun s _ => by rw [prev_zero m c t r sb h0 _ _ _ s, zero_mul])]
  rw [Fin.sum_univ_eight, Fin.sum_univ_eight, hl 4 (by decide), hl 5 (by decide), hl 6 (by decide), hl 7 (by decide),
    hA 4 (by decide), hA 5 (by decide), hA 6 (by decide), hA 7 (by decide), ho, ho, ho, ho]
  refine congrArg₂ Ideal.div ?_ ?_
  · change asum m c t r e 3 + asum m c t r e 2 + asum m c t r e 1 + asum m c t r e 0 + 0 = _
    abel
  · change lsum m c t r 3 + lsum m c t r 2 + lsum m c t r 1 + lsum m c t r 0 + 0 = _
    abel

include hs hP in
/-- The second query block's rows: the near chunks and the loop's three. -/
theorem row_B (h1 : t.val % 2 = 1) (hb : sb = selB m c t) (h3 : (k0_t1_loop (grid0.coords t)).trips = 3) (e : Fin 64) :
    Ideal.div ((endB m c t h3).2 (ix2 r e)) ((endB m c t h3).1 (ix2 r 0)) = goal m c t r e := by
  subst hb
  have hc : (grid0.coords t 1).val = 1 := (coord1 t).trans h1
  have ho : ∀ k : Fin 4, own t k = ⟨4 + k.val, by omega⟩ := fun k => Fin.ext (by simp only [own]; omega)
  unfold endB
  rw [far_l m c t r _ P hs hP h1, far_l m c t r _ P hs hP h1, far_l m c t r _ P hs hP h1,
    far_a m c t r _ P hs hP h1, far_a m c t r _ P hs hP h1, far_a m c t r _ P hs hP h1]
  dsimp only
  rw [goal_eq, L0_apply m c t r _ P hs hP, A0_apply m c t r _ P hs hP]
  rw [Finset.sum_congr rfl (fun s _ => congrArg₂ (· * ·)
      (prev_weight m c t r _ P hs hP h1 _ _ _ _ (off_prev _ hc).1 (off_prev _ hc).2 s)
      (val_apply m c t _ _ 3 (off_prev _ hc).2 s e)),
    Finset.sum_congr rfl (fun s _ => prev_weight m c t r _ P hs hP h1 _ _ _ _ (off_prev _ hc).1 (off_prev _ hc).2 s)]
  rw [Fin.sum_univ_eight, Fin.sum_univ_eight, ho, ho, ho, ho]
  refine congrArg₂ Ideal.div ?_ ?_
  · change asum m c t r e 7 + asum m c t r e 6 + asum m c t r e 5 + asum m c t r e 4 + asum m c t r e 3
      + asum m c t r e 0 + asum m c t r e 1 + asum m c t r e 2 = _
    abel
  · change lsum m c t r 7 + lsum m c t r 6 + lsum m c t r 5 + lsum m c t r 4 + lsum m c t r 3
      + lsum m c t r 0 + lsum m c t r 1 + lsum m c t r 2 = _
    abel

end Cert.KernelIdeal.Body

end
-- ==== Proof.KFinal.lean ====
module

public import proofs.«01_k».proof.Proof.KRank
public import proofs.«01_k».proof.Proof.KOut

/-! The array that the kernel returns is the specification's attention, head by head. -/

@[expose] public section

set_option maxRecDepth 16384

noncomputable section

open scoped Classical

namespace Cert.KernelIdeal.Body

open Cert.Words Cert.Spec Cert.KernelIdeal Cert.KernelIdeal.Gen Idealize.ShloMosaic Idealize.ShloMosaic.TcCoe Idealize.SL.Sem

variable (m : (ℓ : Loc nD τ sig) → Buf (Elt Ideal) ℓ)

/-- The specification's result over the three argument arrays, all heads. -/
def spec (q k v : FVec Ideal S1x12x2048x64 .f32) : FVec Ideal S12x2048x64 .f32 := fun y =>
  out (fun i d => q (ix4 0 (y 0) i d)) (fun i d => k (ix4 0 (y 0) i d)) (fun i d => v (ix4 0 (y 0) i d)) (y 1) (y 2)

/-- A row of a grid point's result. -/
theorem point_row (c : Dev nD) (t : Fin cfg0.N) (hq : AllReal (qM m c (hd t))) (hk : AllReal (kM m c (hd t)))
    (r : Fin 1024) (e : Fin 64) : outsAt0 m c t.val t.isLt (ix3 0 r e) = goal m c t r e := by
  rcases Nat.mod_two_eq_zero_or_one t.val with h0 | h1
  · rw [out_A m c t h0, pay7_apply]
    refine row_A m c t r _ (fun _ => True) (fun b => by rw [if_pos trivial]; exact pay13_apply _) (fun j hj => ?_) h0 e
    refine iff_of_true trivial (rank_lt_of_few _ _ 16 (fun b hb => ?_) ?_)
    · unfold visible
      rw [if_neg]
      simp only [qpos]; omega
    · unfold visible
      rw [if_pos (by simp only [blockOf]; omega)]
      obtain ⟨y, hy⟩ := score_real hq hk (qpos t r) (blockOf j)
      rw [hy]
      exact EReal.coe_ne_bot y
  · have h3 := trips_B _ ((coord1 t).trans h1)
    rw [out_B m c t h1 h3, pay7_apply]
    refine row_B m c t r _ (fun b => 64 * b.val ≤ (qpos t r).val
        ∧ rank (visible (qM m c (hd t)) (kM m c (hd t)) (qpos t r)) b < 16)
      (fun b => by rw [selB_apply m c t r b (visible_real hq hk _)]; congr) (fun j hj => ?_) h1 rfl h3 e
    exact and_iff_right (by simp only [blockOf]; omega)

/-- The whole result. -/
theorem final (c : Dev nD) (hq : ∀ h, AllReal (qM m c h)) (hk : ∀ h, AllReal (kM m c h)) :
    (dats m 0 c).arrAt 10 cfg0.N = spec (m ((c : Thread nD τ).loc main_arg0)) (m ((c : Thread nD τ).loc main_arg1))
      (m ((c : Thread nD τ).loc main_arg2)) := by
  refine (dats m 0 c).arrAt_eq_of_covers 10 _ (by decide +kernel) fun t hf y => ?_
  blk_simp
  rw [after0_10]
  have hy : y = (ix3 0 (y 1) (y 2) : S1x1024x64.Idx) := by
    funext a
    match a with
    | ⟨0, _⟩ => exact Subsingleton.elim (α := Fin 1) _ _
    | ⟨1, _⟩ => rfl
    | ⟨2, _⟩ => rfl
  have he : (win0_10.blk t).view.emb y = (ix3 (hd t) (qpos t (y 1)) (y 2) : S12x2048x64.Idx) := by
    blk_ext [idx t, hd, qpos]
  refine (congrArg (outsAt0 m c t.val t.isLt) hy).trans ((point_row m c t (hq _) (hk _) (y 1) (y 2)).trans ?_)
  rw [he]
  rfl

end Cert.KernelIdeal.Body

end
-- ==== Proof.RStage.lean ====
module

public import proofs.«01_k».proof.Proof.Gen.ReferenceIdeal.Run
public import proofs.«01_k».proof.Proof.Soft

/-! The reference, cut into its steps: block scores, the best blocks, the token mask, the masked scores,
the softmax and the weighted values. -/

@[expose] public section

set_option maxRecDepth 16384

noncomputable section

namespace Cert.ReferenceIdeal.Steps

open Cert.ReferenceIdeal Cert.ReferenceIdeal.Gen Idealize.ShloMosaic Idealize.ShloMosaic.TcCoe Idealize.SL.Sem Idealize.ShloMosaic.StableHlo

/-- One over the square root of 64. -/
def scl : FVec Ideal S_ .f32 :=
  Host.divf (constant S_ .f32 0x3F800000#32) (Host.sqrt (constant S_ .f32 0x42800000#32))

/-- The mean keys of the blocks. -/
def means (K : FVec Ideal S1x12x2048x64 .f32) : FVec Ideal S1x12x32x64 .f32 :=
  Host.divf (Host.reduceAdd (shapeCast _ K shapeCasts_S1x12x2048x64_S1x12x32x64x64) (constant S_ .f32 0x00000000#32) reducesTo_S1x12x32x64x64_S1x12x32x64_d3 h_S_) (broadcastInDim S1x12x32x64 ![] bcast_S_S1x12x32x64 (constant S_ .f32 0x42800000#32))

/-- The scaled block scores, masked where the block begins after the query. -/
def scores (Q K : FVec Ideal S1x12x2048x64 .f32) : FVec Ideal S1x12x2048x32 .f32 :=
  select (broadcastInDim S1x12x2048x32 ![0, 1, 2, 3] bcast_S1x1x2048x32_S1x12x2048x32_0_1_2_3 (broadcastInDim S1x1x2048x32 ![2, 3] bcast_S2048x32_S1x1x2048x32_2_3 (cmpi .sle (broadcastInDim S2048x32 ![0, 1] bcast_S1x32_S2048x32_0_1 (broadcastInDim S1x32 ![1] bcast_S32_S1x32_1 (muli (iotaInDim S32 32 0) (broadcastInDim S32 ![] bcast_S_S32 (constantI S_ 32 64#32))))) (broadcastInDim S2048x32 ![0, 1] bcast_S2048x1_S2048x32_0_1 (broadcastInDim S2048x1 ![0] bcast_S2048_S2048x1_0 (iotaInDim S2048 32 0)))))) (mulf (Host.dotGeneral dot_S1x12x2048x64_S1x12x32x64_S1x12x2048x32_3_3_2_2_01_01 none Q (means K)) (broadcastInDim S1x12x2048x32 ![] bcast_S_S1x12x2048x32 scl)) (broadcastInDim S1x12x2048x32 ![] bcast_S_S1x12x2048x32 (constant S_ .f32 0xFF800000#32))

/-- The numbers of each query's sixteen best blocks. -/
def best (x : FVec Ideal S1x12x2048x32 .f32) : IVec S1x12x2048x16 32 :=
  (Host.topK S1x12x2048x16 3 (FloatOps.cmpfTotal .gt) x sliceFits_S1x12x2048x32_S1x12x2048x16).2

/-- Which blocks are among the sixteen. -/
def chosen (n : IVec S1x12x2048x16 32) : IVec S1x12x2048x32 1 :=
  cmpf .ogt (Host.reduceAdd (F := Ideal) (uitofp .f32 (cmpi .eq (broadcastInDim S1x12x2048x16x32 ![0, 1, 2, 3, 4] bcast_S1x12x2048x16x1_S1x12x2048x16x32_0_1_2_3_4 (broadcastInDim S1x12x2048x16x1 ![0, 1, 2, 3] bcast_S1x12x2048x16_S1x12x2048x16x1_0_1_2_3 n)) (broadcastInDim S1x12x2048x16x32 ![0, 1, 2, 3, 4] bcast_S1x1x1x1x32_S1x12x2048x16x32_0_1_2_3_4 (iotaInDim S1x1x1x1x32 32 4)))) (constant S_ .f32 0x00000000#32) reducesTo_S1x12x2048x16x32_S1x12x2048x32_d3 h_S_ : FVec Ideal S1x12x2048x32 .f32) (broadcastInDim S1x12x2048x32 ![] bcast_S_S1x12x2048x32 (constant S_ .f32 0x00000000#32))

/-- The block of each position. -/
def blockNo : IVec S2048 32 :=
  select (andi (cmpi .ne (signi (iotaInDim S2048 32 0)) (broadcastInDim S2048 ![] bcast_S_S2048 (signi (constantI S_ 32 64#32)))) (cmpi .ne (Host.remsi (iotaInDim S2048 32 0) (broadcastInDim S2048 ![] bcast_S_S2048 (constantI S_ 32 64#32))) (broadcastInDim S2048 ![] bcast_S_S2048 (constantI S_ 32 0#32)))) (subi (Host.divsi (iotaInDim S2048 32 0) (broadcastInDim S2048 ![] bcast_S_S2048 (constantI S_ 32 64#32))) (broadcastInDim S2048 ![] bcast_S_S2048 (constantI S_ 32 1#32))) (Host.divsi (iotaInDim S2048 32 0) (broadcastInDim S2048 ![] bcast_S_S2048 (constantI S_ 32 64#32)))

/-- The start indices of the gather: a negative block number counts from the end (there is none). -/
def starts : IVec S2048x1 32 :=
  broadcastInDim S2048x1 ![0] bcast_S2048_S2048x1_0 (select (cmpi .slt blockNo (broadcastInDim S2048 ![] bcast_S_S2048 (constantI S_ 32 0#32))) (addi blockNo (broadcastInDim S2048 ![] bcast_S_S2048 (constantI S_ 32 32#32))) blockNo)

/-- Which start indices are in range: all. -/
def inRange : IVec S2048 1 :=
  Host.reduce IntOp.andi (andi (cmpi .sge starts (broadcastInDim S2048x1 ![] bcast_S_S2048x1 (constantI S_ 32 0#32))) (cmpi .sle starts (broadcastInDim S2048x1 ![0, 1] bcast_S1x1_S2048x1_0_1 (broadcastInDim S1x1 ![1] bcast_S1_S1x1_1 (constantI S1 32 31#32))))) (constantI S_ 1 1#1) reducesTo_S2048x1_S2048_d1 h_S_

/-- The chosen blocks, spread to their positions. -/
def spreadOut (s : IVec S1x12x2048x32 1) : IVec S1x12x2048x2048 1 :=
  select (broadcastInDim S1x12x2048x2048 ![3] bcast_S2048_S1x12x2048x2048_3 inRange) (Host.gather gather_S1x12x2048x32_S2048x1_S1x12x2048x2048_012_3_n_n_3_1_11220481 s starts) (broadcastInDim S1x12x2048x2048 ![] bcast_S_S1x12x2048x2048 (constantI S_ 1 1#1))

/-- The position of the query, over the square of positions. -/
def qp : IVec S2048x2048 32 :=
  broadcastInDim S2048x2048 ![0, 1] bcast_S2048x1_S2048x2048_0_1 (broadcastInDim S2048x1 ![0] bcast_S2048_S2048x1_0 (iotaInDim S2048 32 0))

/-- The position of the key, over the square of positions. -/
def kp : IVec S2048x2048 32 :=
  broadcastInDim S2048x2048 ![0, 1] bcast_S1x2048_S2048x2048_0_1 (broadcastInDim S1x2048 ![1] bcast_S2048_S1x2048_1 (iotaInDim S2048 32 0))

/-- The token mask: chosen or in the window, and causal. -/
def mask (s : IVec S1x12x2048x2048 1) : IVec S1x12x2048x2048 1 :=
  andi (ori s (broadcastInDim S1x12x2048x2048 ![0, 1, 2, 3] bcast_S1x1x2048x2048_S1x12x2048x2048_0_1_2_3 (broadcastInDim S1x1x2048x2048 ![2, 3] bcast_S2048x2048_S1x1x2048x2048_2_3 (andi (cmpi .sge (subi qp kp) (broadcastInDim S2048x2048 ![] bcast_S_S2048x2048 (constantI S_ 32 0#32))) (cmpi .slt (subi qp kp) (broadcastInDim S2048x2048 ![] bcast_S_S2048x2048 (constantI S_ 32 256#32))))))) (broadcastInDim S1x12x2048x2048 ![0, 1, 2, 3] bcast_S1x1x2048x2048_S1x12x2048x2048_0_1_2_3 (broadcastInDim S1x1x2048x2048 ![2, 3] bcast_S2048x2048_S1x1x2048x2048_2_3 (cmpi .sle kp qp)))

/-- The masked, scaled scores of all queries and keys. -/
def masked (Q K : FVec Ideal S1x12x2048x64 .f32) (k : IVec S1x12x2048x2048 1) : FVec Ideal S1x12x2048x2048 .f32 :=
  select k (mulf (Host.dotGeneral dot_S1x12x2048x64_S1x12x2048x64_S1x12x2048x2048_3_3_2_2_01_01 none Q K) (broadcastInDim S1x12x2048x2048 ![] bcast_S_S1x12x2048x2048 scl)) (broadcastInDim S1x12x2048x2048 ![] bcast_S_S1x12x2048x2048 (constant S_ .f32 0xFF800000#32))

/-- The greatest score of each query. -/
def top (a : FVec Ideal S1x12x2048x2048 .f32) : FVec Ideal S1x12x2048 .f32 :=
  maximumf (broadcastInDim S1x12x2048 ![] bcast_S_S1x12x2048 (constant S_ .f32 0xFF800000#32)) (Host.reduce FloatOps.maximumf a (constant S_ .f32 0xFF800000#32) reducesTo_S1x12x2048x2048_S1x12x2048_d3 h_S_)

/-- The exponentials, shifted by a number for each query. -/
def exps (a : FVec Ideal S1x12x2048x2048 .f32) (t : FVec Ideal S1x12x2048 .f32) : FVec Ideal S1x12x2048x2048 .f32 :=
  Host.exp (subf a (broadcastInDim S1x12x2048x2048 ![0, 1, 2, 3] bcast_S1x12x2048x1_S1x12x2048x2048_0_1_2_3 (broadcastInDim S1x12x2048x1 ![0, 1, 2] bcast_S1x12x2048_S1x12x2048x1_0_1_2 t)))

/-- The normalised exponentials. -/
def soft (p : FVec Ideal S1x12x2048x2048 .f32) : FVec Ideal S1x12x2048x2048 .f32 :=
  Host.divf p (broadcastInDim S1x12x2048x2048 ![0, 1, 2, 3] bcast_S1x12x2048x1_S1x12x2048x2048_0_1_2_3 (broadcastInDim S1x12x2048x1 ![0, 1, 2] bcast_S1x12x2048_S1x12x2048x1_0_1_2 (Host.reduceAdd p (constant S_ .f32 0x00000000#32) reducesTo_S1x12x2048x2048_S1x12x2048_d3 h_S_)))

/-- The weighted values, all heads. -/
def result (w : FVec Ideal S1x12x2048x2048 .f32) (V : FVec Ideal S1x12x2048x64 .f32) : FVec Ideal S12x2048x64 .f32 :=
  shapeCast _ (Host.dotGeneral dot_S1x12x2048x2048_S1x12x2048x64_S1x12x2048x64_3_2_2_3_01_01 none w V) shapeCasts_S1x12x2048x64_S12x2048x64

/-- The masked scores over the arguments. -/
def attn (Q K : FVec Ideal S1x12x2048x64 .f32) : FVec Ideal S1x12x2048x2048 .f32 :=
  masked Q K (mask (spreadOut (chosen (best (scores Q K)))))

variable (m : (ℓ : Loc nD τ sig) → Buf (Elt Ideal) ℓ)

/-- The reference's result is these steps. -/
theorem res_eq (c : Dev nD) : Value.res_main_v63 m c
    = result (soft (exps (attn (m ((c.tc : Thread nD τ).loc main_arg0)) (m ((c.tc : Thread nD τ).loc main_arg1)))
        (top (attn (m ((c.tc : Thread nD τ).loc main_arg0)) (m ((c.tc : Thread nD τ).loc main_arg1))))))
      (m ((c.tc : Thread nD τ).loc main_arg2)) := by
  unfold Value.res_main_v63
  rfl

end Cert.ReferenceIdeal.Steps

end
-- ==== Proof.RMask.lean ====
module

public import proofs.«01_k».proof.Proof.RStage
public import proofs.«01_k».proof.Proof.Words
public import proofs.«01_k».proof.Proof.Rank
public import Idealize.ShloMosaic.Lib.Pointwise

/-! The reference's token mask, read at a query and a key: it is the specification's `seen`. -/

@[expose] public section

set_option maxRecDepth 16384

noncomputable section

open scoped Classical

namespace Cert.ReferenceIdeal.Steps

open Cert.Words Cert.Spec Cert.ReferenceIdeal Cert.ReferenceIdeal.Gen Idealize.ShloMosaic Idealize.ShloMosaic.TcCoe Idealize.SL.Sem Idealize.ShloMosaic.StableHlo

variable (Q K V : FVec Ideal S1x12x2048x64 .f32) (h : Fin 12) (i j : Fin 2048) (b : Fin 32) (d e : Fin 64)

/-- Head `h` of an argument, as a matrix. -/
def headOf (Q : FVec Ideal S1x12x2048x64 .f32) (h : Fin 12) : Mat := fun i d => Q (ix4 0 h i d)

/-! ### Bits -/

/-- The `and` of two bits is set when both are. -/
theorem and_bit (a b : BitVec 1) : IntOp.andi a b = 1#1 ↔ a = 1#1 ∧ b = 1#1 := by
  revert a b; decide

/-- The `or` of two bits is set when one of them is. -/
theorem or_bit (a b : BitVec 1) : IntOp.ori a b = 1#1 ↔ a = 1#1 ∨ b = 1#1 := by
  revert a b; decide

/-- The bit of a proposition is set when it holds. -/
theorem ofBool_bit (p : Prop) [Decidable p] : BitVec.ofBool (decide p) = 1#1 ↔ p := by
  by_cases hp : p <;> simp [hp]

/-- The bit of signed `≥`. -/
theorem sge_bit (u v : BitVec 32) : IntOp.cmpi .sge u v = 1#1 ↔ v.toInt ≤ u.toInt := by
  rw [← BitVec.sle_iff_toInt_le]; simp only [IntOp.cmpi]; cases v.sle u <;> decide

/-- The bit of signed `<`. -/
theorem slt_bit (u v : BitVec 32) : IntOp.cmpi .slt u v = 1#1 ↔ u.toInt < v.toInt := by
  rw [← BitVec.slt_iff_toInt_lt]; simp only [IntOp.cmpi]; cases u.slt v <;> decide

/-- The bit of equality. -/
theorem eq_bit (u v : BitVec 32) : IntOp.cmpi .eq u v = 1#1 ↔ u = v := by
  rw [← beq_iff_eq (a := u)]; simp only [IntOp.cmpi]; cases u == v <;> decide

/-! ### The block of a position -/

/-- The block of key `j` is `j / 64`. -/
theorem blockNo_apply : blockNo (ix1 j) = BitVec.ofNat 32 (j.val / 64) := by
  pointwise [blockNo]
  revert j
  decide +kernel

/-- The position gathered for key `j` is its block. -/
theorem starts_apply (z : Fin 1) : starts (ix2 j z) = BitVec.ofNat 32 (j.val / 64) := by
  pointwise [starts]
  rw [blockNo_apply, select_slt, toInt_ofNat _ (by omega), if_neg (by
    rw [show (0#32).toInt = 0 from rfl]; omega)]

/-- Every gathered position is in range. -/
theorem inRange_apply : inRange (ix1 j) = 1#1 := by
  pointwise [inRange]
  rw [Finset.univ_unique, Finset.fold_singleton, starts_apply]
  have : ∀ n : Fin 32, IntOp.andi (IntOp.andi (IntOp.cmpi .sge (BitVec.ofNat 32 n.val) 0#32)
      (IntOp.cmpi .sle (BitVec.ofNat 32 n.val) 31#32)) 1#1 = 1#1 := by decide
  exact this (blockOf j)

/-! ### The gather -/

/-- The gather reads the block of the key. -/
theorem gather_apply (s : IVec S1x12x2048x32 1) :
    Host.gather gather_S1x12x2048x32_S2048x1_S1x12x2048x2048_012_3_n_n_3_1_11220481 s starts (ix4 0 h i j)
      = s (ix4 0 h i (blockOf j)) := by
  unfold Host.gather
  congr 1
  funext a
  refine Fin.ext ?_
  change GatherDims.start _ _ _ a + GatherDims.batchCoord _ _ a + GatherDims.offCoord _ _ a = _
  rw [GatherDims.batchCoord_eq_zero _ _ _ (fun h => by simp [gather_S1x12x2048x32_S2048x1_S1x12x2048x2048_012_3_n_n_3_1_11220481] at h)]
  match a with
  | ⟨0, _⟩ => rfl
  | ⟨1, _⟩ => exact Nat.zero_add h.val
  | ⟨2, _⟩ => exact Nat.zero_add i.val
  | ⟨3, _⟩ =>
    rw [GatherDims.offCoord_eq_zero _ _ _ (fun h => ((GatherDims.mem_sKept _ _).mp h).1 (List.mem_singleton.mpr rfl))]
    unfold GatherDims.start
    rw [dif_pos (show (⟨3, by decide⟩ : Fin S1x12x2048x32.rank)
      ∈ gather_S1x12x2048x32_S2048x1_S1x12x2048x2048_012_3_n_n_3_1_11220481.startIndexMap from List.mem_singleton.mpr rfl)]
    have hsi : ∀ p, GatherDims.siIdx gather_S1x12x2048x32_S2048x1_S1x12x2048x2048_012_3_n_n_3_1_11220481 (ix4 0 h i j)
        ⟨List.idxOf (3 : Fin 4) [3], p⟩ = ix2 j 0 := by
      intro p
      funext a
      match a with
      | ⟨0, _⟩ => rfl
      | ⟨1, _⟩ => rfl
    refine (congrArg (fun z => min (starts z).toInt.toNat 31) (hsi _)).trans ?_
    rw [starts_apply, toInt_ofNat _ (by omega)]
    change min (j.val / 64) 31 = j.val / 64
    omega

/-- The block selection spread out to keys: key `j` has the bit of its block. -/
theorem spreadOut_apply (s : IVec S1x12x2048x32 1) : spreadOut s (ix4 0 h i j) = s (ix4 0 h i (blockOf j)) := by
  pointwise [spreadOut]
  rw [inRange_apply, gather_apply]
  rfl

/-! ### The sixteen best blocks -/

/-- The total order's `greater` bit is the order of the extended reals. -/
theorem total_bit (x y : EReal) : (FloatOps.cmpfTotal (F := Ideal) (φ := .f32) .gt x y == 1#1) = decide (y < x) := by
  change (BitVec.ofBool (decide (y < x)) == 1#1) = _
  by_cases hp : y < x <;> simp [hp]

/-- The positions that a top-k finds: those of the stable sort, `J` the result's index in the operand. -/
theorem topK_positions {α : Type} (s t : Shape) (d : Nat) (hd : d < s.rank) (gt : α → α → BitVec 1) (x : s.Idx → α)
    (hs : s.Slices (fun _ => 0) t) (j : t.Idx) (J : s.Idx) (hJ : ∀ a, (J a).val = (j (a.cast hs.1.symm)).val) :
    (Host.topK t d gt x hs).2 j = BitVec.ofNat 32 (sortedFrom
      (fun a b => gt (x (J.along ⟨d, hd⟩ a)) (x (J.along ⟨d, hd⟩ b)) == 1#1) (J ⟨d, hd⟩)).val := by
  have e : (fun a => ⟨0 + (j (a.cast hs.1.symm)).val,
      Nat.lt_of_lt_of_le (Nat.add_lt_add_left (j _).isLt _) (hs.2 a)⟩ : s.Idx) = J :=
    funext fun a => Fin.ext ((Nat.zero_add _).trans (hJ a).symm)
  subst e
  unfold Host.topK Host.sort2
  simp only [dif_pos hd]
  unfold extractStridedSlice iotaInDim Shape.Idx.along
  beta_reduce
  rw [Function.update_self]

/-- The place of a block among the best is its place in the stable sort. -/
theorem best_apply (x : FVec Ideal S1x12x2048x32 .f32) (k : Fin 16) : best x (ix4 0 h i k)
    = BitVec.ofNat 32 (sortedFrom (fun a b => decide (x (ix4 0 h i b) < x (ix4 0 h i a))) (⟨k.val, by omega⟩ : Fin 32)).val := by
  have hl : ∀ a : Fin 32, Shape.Idx.along (s := S1x12x2048x32) (ix4 0 h i (⟨k.val, by omega⟩ : Fin 32)) (3 : Fin 4) a
      = ix4 0 h i a := by
    intro a
    funext z
    match z with
    | ⟨0, _⟩ => rfl
    | ⟨1, _⟩ => rfl
    | ⟨2, _⟩ => rfl
    | ⟨3, _⟩ => rfl
  unfold best
  refine (topK_positions S1x12x2048x32 S1x12x2048x16 3 (by decide) _ x _ (ix4 0 h i k)
    (ix4 0 h i (⟨k.val, by omega⟩ : Fin 32)) (fun z => ?_)).trans ?_
  · match z with
    | ⟨0, _⟩ => rfl
    | ⟨1, _⟩ => rfl
    | ⟨2, _⟩ => rfl
    | ⟨3, _⟩ => rfl
  · have hb : (fun a b : Fin 32 => FloatOps.cmpfTotal (F := Ideal) (φ := .f32) .gt
        (x (Shape.Idx.along (s := S1x12x2048x32) (ix4 0 h i (⟨k.val, by omega⟩ : Fin 32)) (3 : Fin 4) a))
        (x (Shape.Idx.along (s := S1x12x2048x32) (ix4 0 h i (⟨k.val, by omega⟩ : Fin 32)) (3 : Fin 4) b)) == 1#1)
        = fun a b => decide (x (ix4 0 h i b) < x (ix4 0 h i a)) := by
      funext a b
      rw [hl, hl, total_bit]
    exact congrArg (fun f => BitVec.ofNat 32 (sortedFrom f (⟨k.val, by omega⟩ : Fin 32)).val) hb

/-- A block is among the chosen exactly when some place of the best holds its number. -/
theorem chosen_bit (n : IVec S1x12x2048x16 32) :
    chosen n (ix4 0 h i b) = 1#1 ↔ ∃ k : Fin 16, n (ix4 0 h i k) = BitVec.ofNat 32 b.val := by
  pointwise [chosen]
  rw [ofBool_bit]
  have e : ∀ x : Fin 16, (FloatOps.uitofp (F := Ideal) FTy.f32 (IntOp.cmpi CmpIPredicate.eq (n (ix4 0 h i x)) (BitVec.ofNat 32 ↑b)) : EReal)
      = if n (ix4 0 h i x) = BitVec.ofNat 32 b.val then 1 else 0 := by
    intro x
    change (((IntOp.cmpi CmpIPredicate.eq (n (ix4 0 h i x)) (BitVec.ofNat 32 ↑b)).toNat : ℝ) : EReal) = _
    split
    · rename_i hx; rw [(eq_bit _ _).mpr hx]; simp
    · rename_i hx
      have : IntOp.cmpi CmpIPredicate.eq (n (ix4 0 h i x)) (BitVec.ofNat 32 ↑b) = 0#1 :=
        (BitVec.eq_zero_or_eq_one _).resolve_right fun h' => hx ((eq_bit _ _).mp h')
      rw [this]; simp
  have hpos : ∀ x : Fin 16, (0 : EReal) ≤ if n (ix4 0 h i x) = BitVec.ofNat 32 b.val then 1 else 0 := by
    intro x; split <;> simp
  rw [Finset.sum_congr rfl fun x _ => e x]
  constructor
  · intro hs
    by_contra hne
    push Not at hne
    rw [Finset.sum_eq_zero fun x _ => if_neg (hne x)] at hs
    exact lt_irrefl _ hs
  · rintro ⟨k, hk⟩
    refine lt_of_lt_of_le ?_ (Finset.single_le_sum (fun x _ => hpos x) (Finset.mem_univ k))
    rw [if_pos hk]; exact zero_lt_one

/-- A block is chosen exactly when its rank is below sixteen. -/
theorem chosen_rank (x : FVec Ideal S1x12x2048x32 .f32) :
    chosen (best x) (ix4 0 h i b) = 1#1 ↔ rank (fun b : Fin 32 => x (ix4 0 h i b)) b < 16 := by
  rw [chosen_bit, ← exists_place_iff]
  constructor
  · rintro ⟨k, hk⟩
    refine ⟨⟨k.val, by omega⟩, k.isLt, Fin.ext ?_⟩
    rw [best_apply, ofNat_inj (by omega) (by omega)] at hk
    exact hk
  · rintro ⟨k, hk, rfl⟩
    exact ⟨⟨k.val, hk⟩, best_apply h i x _⟩

/-! ### The mask -/

/-- A key is kept when its block is selected or it lies in the window, and it is not after the query. -/
theorem mask_bit (s : IVec S1x12x2048x2048 1) : mask s (ix4 0 h i j) = 1#1
    ↔ (s (ix4 0 h i j) = 1#1 ∨ (j.val ≤ i.val ∧ i.val < j.val + 256)) ∧ j.val ≤ i.val := by
  pointwise [mask, qp, kp]
  rw [and_bit, or_bit, and_bit, sge_bit, slt_bit, sle_bit]
  have e : (IntOp.subi (BitVec.ofNat 32 i.val) (BitVec.ofNat 32 j.val)).toInt = (i.val : ℤ) - j.val :=
    toInt_sub _ _ (by omega) (by omega)
  rw [e, show (0#32).toInt = 0 from rfl, show (256#32).toInt = 256 from rfl,
    toInt_ofNat i.val (by omega), toInt_ofNat j.val (by omega)]
  exact and_congr (or_congr Iff.rfl (and_congr (by omega) (by omega))) (by omega)

/-! ### The block scores -/

/-- The scale is one eighth. -/
theorem scl_apply (z : S_.Idx) : scl z = ((1 / 8 : ℝ) : EReal) := by
  pointwise [scl]
  have hs : Real.sqrt 64 = 8 := by
    rw [show (64 : ℝ) = 8 ^ 2 by norm_num]; exact Real.sqrt_sq (by norm_num)
  rw [bits_64, Ideal.sqrt_coe, if_neg (by norm_num), hs, div_real _ _ (by norm_num), one_mul]
  norm_num

/-- The reference's mean keys are the specification's. -/
theorem means_apply : means K (ix4 0 h b d) = mean (headOf K h) b d := by
  pointwise [means]
  refine congrArg₂ Ideal.div (Finset.sum_congr rfl fun s _ => ?_) bits_64
  refine congrArg (fun j => headOf K h j d) (Fin.ext ?_)
  simp only [at64]; omega

/-- The reference's block scores: scaled, and `-∞` for a block that starts after the query. -/
theorem scores_apply : scores Q K (ix4 0 h i b)
    = if 64 * b.val ≤ i.val then score (headOf Q h) (headOf K h) i b * ((1 / 8 : ℝ) : EReal) else ⊥ := by
  pointwise [scores]
  rw [scl_apply, bits_neg_inf, show (64#32) = BitVec.ofNat 32 64 from rfl, muli_ofNat, select_sle,
    toInt_ofNat _ (by omega), toInt_ofNat _ (by omega)]
  refine if_congr (by omega) ?_ rfl
  refine congrArg (· * _) (Finset.sum_congr rfl fun d _ => ?_)
  rw [means_apply]
  rfl

end Cert.ReferenceIdeal.Steps

end
-- ==== Proof.RRef.lean ====
module

public import proofs.«01_k».proof.Proof.RMask
public import Idealize.ShloMosaic.PureOps.Reduce
public import Idealize.ShloMosaic.PureOps.Ideal.Laws

/-! The reference's result is the specification's attention, where queries and keys are real. -/

@[expose] public section

set_option maxRecDepth 16384

noncomputable section

open scoped Classical

namespace Cert.ReferenceIdeal.Steps

open Cert.Words Cert.Spec Cert.ReferenceIdeal Cert.ReferenceIdeal.Gen Idealize.ShloMosaic Idealize.ShloMosaic.TcCoe Idealize.SL.Sem Idealize.ShloMosaic.StableHlo

variable (Q K V : FVec Ideal S1x12x2048x64 .f32) (h : Fin 12) (i j : Fin 2048) (b : Fin 32) (d e : Fin 64)

/-- The scale keeps the order of the visible scores, so the reference ranks as the specification does. -/
theorem rank_scores (hq : AllReal (headOf Q h)) (hk : AllReal (headOf K h)) :
    rank (fun b : Fin 32 => scores Q K (ix4 0 h i b)) b = rank (visible (headOf Q h) (headOf K h) i) b := by
  refine rank_congr _ _ (fun a b => ?_) b
  beta_reduce
  rw [scores_apply, scores_apply]
  unfold visible
  obtain ⟨y, hy⟩ := score_real hq hk i a
  obtain ⟨z, hz⟩ := score_real hq hk i b
  rw [hy, hz, ← EReal.coe_mul, ← EReal.coe_mul]
  by_cases ha : 64 * a.val ≤ i.val <;> by_cases hb : 64 * b.val ≤ i.val
  · rw [if_pos ha, if_pos hb, if_pos ha, if_pos hb, EReal.coe_lt_coe_iff, EReal.coe_lt_coe_iff]
    constructor <;> intro <;> linarith
  · rw [if_pos ha, if_neg hb, if_pos ha, if_neg hb]
    exact iff_of_false not_lt_bot not_lt_bot
  · rw [if_neg ha, if_pos hb, if_neg ha, if_pos hb]
    exact iff_of_true (EReal.bot_lt_coe _) (EReal.bot_lt_coe _)
  · rw [if_neg ha, if_neg hb, if_neg ha, if_neg hb]

/-- The reference's token mask is the specification's. -/
theorem mask_seen (hq : AllReal (headOf Q h)) (hk : AllReal (headOf K h)) :
    mask (spreadOut (chosen (best (scores Q K)))) (ix4 0 h i j) = 1#1 ↔ seen (headOf Q h) (headOf K h) i j := by
  rw [mask_bit, spreadOut_apply, chosen_rank, rank_scores Q K h i _ hq hk]
  unfold seen
  constructor
  · rintro ⟨h1 | h1, h2⟩
    · exact ⟨h2, Or.inl h1⟩
    · exact ⟨h2, Or.inr h1.2⟩
  · rintro ⟨h2, h1 | h1⟩
    · exact ⟨Or.inl h1, h2⟩
    · exact ⟨Or.inr ⟨h2, h1⟩, h2⟩

/-- The masked score of a query and a key. -/
theorem attn_apply (hq : AllReal (headOf Q h)) (hk : AllReal (headOf K h)) :
    attn Q K (ix4 0 h i j)
      = if seen (headOf Q h) (headOf K h) i j then att (headOf Q h) (headOf K h) i j else ⊥ := by
  have hm := mask_seen Q K h i j hq hk
  unfold attn
  generalize mask (spreadOut (chosen (best (scores Q K)))) = M at hm ⊢
  pointwise [masked]
  rw [scl_apply, bits_neg_inf, sum_mul_real _ _ (by norm_num)]
  have hsum : (∑ d : Fin 64, Q (ix4 0 h i d) * K (ix4 0 h j d) * ((1 / 8 : ℝ) : EReal))
      = att (headOf Q h) (headOf K h) i j :=
    Finset.sum_congr rfl fun d _ => mul_right_comm _ _ _
  rw [hsum]
  by_cases hs : seen (headOf Q h) (headOf K h) i j
  · rw [if_pos hs, hm.mpr hs]; rfl
  · rw [if_neg hs, (BitVec.eq_zero_or_eq_one (M (ix4 0 h i j))).resolve_right fun h' => hs (hm.mp h')]; rfl

/-- A query sees itself. -/
theorem seen_self (q k : Mat) : seen q k i i := ⟨le_refl _, Or.inr (by omega)⟩

/-- A maximum from minus infinity over values below infinity, one of them above minus infinity, is real. -/
theorem reduce_max_real {s t u : Shape} {axes : List (Fin s.rank)} (x : FVec Ideal s .f32) (init : FVec Ideal u .f32)
    (hi : ∀ z, init z = (⊥ : EReal)) (hr : s.ReducesTo axes t) (hu : 0 < u.numel) (z : t.Idx)
    (hall : ∀ y, x y < (⊤ : EReal)) (y₀ : s.Idx) (hd : hr.drop y₀ = z) (hown : (⊥ : EReal) < x y₀) :
    ∃ μ : ℝ, Host.reduce FloatOps.maximumf x init hr hu z = (μ : EReal) := by
  rw [Host.reduce_eq_fold, hi]
  have hmem : y₀ ∈ Finset.univ.filter fun y => hr.drop y = z := Finset.mem_filter.mpr ⟨Finset.mem_univ _, hd⟩
  have hlt : ∀ S : Finset s.Idx, Finset.fold (FloatOps.maximumf (F := Ideal) (φ := .f32)) (⊥ : EReal) x S < (⊤ : EReal) := by
    intro S
    induction S using Finset.induction_on with
    | empty => exact bot_lt_top
    | insert a S ha ih => rw [Finset.fold_insert ha]; exact max_lt (hall a) ih
  have hgt : ∀ S : Finset s.Idx, y₀ ∈ S →
      (⊥ : EReal) < Finset.fold (FloatOps.maximumf (F := Ideal) (φ := .f32)) (⊥ : EReal) x S := by
    intro S hS
    rw [← Finset.insert_erase hS, Finset.fold_insert (Finset.notMem_erase _ _)]
    exact lt_max_of_lt_left hown
  exact ⟨EReal.toReal _, (EReal.coe_toReal (ne_of_lt (hlt _)) (ne_of_gt (hgt _ hmem))).symm⟩

/-- The scores of a query and its own key lie among the query's. -/
theorem drop_own : Shape.ReducesTo.drop reducesTo_S1x12x2048x2048_S1x12x2048_d3 (ix4 0 h i i) = ix3 0 h i := by
  funext a
  match a with
  | ⟨0, _⟩ => exact Fin.ext (Shape.ReducesTo.drop_apply_val_of_eq reducesTo_S1x12x2048x2048_S1x12x2048_d3 (ix4 0 h i i) 0 0)
  | ⟨1, _⟩ => exact Fin.ext (Shape.ReducesTo.drop_apply_val_of_eq reducesTo_S1x12x2048x2048_S1x12x2048_d3 (ix4 0 h i i) 1 1)
  | ⟨2, _⟩ => exact Fin.ext (Shape.ReducesTo.drop_apply_val_of_eq reducesTo_S1x12x2048x2048_S1x12x2048_d3 (ix4 0 h i i) 2 2)

/-- The larger of two tensors at an index whose entries are known. -/
theorem maximumf_apply {s : Shape} (x y : FVec Ideal s .f32) (z : s.Idx) (a b : EReal) (ha : x z = a) (hb : y z = b) :
    maximumf x y z = max a b := congrArg₂ max ha hb

/-- The maximum with minus infinity changes nothing. -/
theorem top_apply (A : FVec Ideal S1x12x2048x2048 .f32) (z : S1x12x2048.Idx) (μ : EReal)
    (hμ : Host.reduce FloatOps.maximumf A (constant S_ .f32 0xFF800000#32) reducesTo_S1x12x2048x2048_S1x12x2048_d3 h_S_ z = μ) :
    top A z = μ :=
  (maximumf_apply _ _ z ⊥ μ bits_neg_inf hμ).trans (bot_sup_eq _)

/-- The greatest score of a query is a real number, where queries and keys are real. -/
theorem top_real (hq : ∀ h, AllReal (headOf Q h)) (hk : ∀ h, AllReal (headOf K h)) :
    ∃ μ : ℝ, top (attn Q K) (ix3 0 h i) = (μ : EReal) := by
  have hall : ∀ y : S1x12x2048x2048.Idx, attn Q K y < ⊤ := by
    intro y
    have hy : y = (ix4 0 (y 1) (y 2) (y 3) : S1x12x2048x2048.Idx) :=
      (eq_ix4 y).trans (congrArg (fun z => ix4 z (y 1) (y 2) (y 3)) (Subsingleton.elim (α := Fin 1) _ _))
    refine lt_of_eq_of_lt ((congrArg (attn Q K) hy).trans (attn_apply Q K (y 1) (y 2) (y 3) (hq _) (hk _))) ?_
    split
    · obtain ⟨r, hr⟩ := att_real (hq (y 1)) (hk (y 1)) (y 2) (y 3)
      rw [hr]; exact EReal.coe_lt_top r
    · exact bot_lt_top
  have hown : ⊥ < attn Q K (ix4 0 h i i) := by
    rw [attn_apply Q K _ _ _ (hq _) (hk _), if_pos (seen_self i _ _)]
    obtain ⟨r, hr⟩ := att_real (hq h) (hk h) i i
    rw [hr]; exact EReal.bot_lt_coe r
  obtain ⟨μ, hμ⟩ := reduce_max_real (attn Q K) (constant S_ .f32 0xFF800000#32) (fun z => bits_neg_inf)
    reducesTo_S1x12x2048x2048_S1x12x2048_d3 h_S_ (ix3 0 h i) hall _ (drop_own h i) hown
  exact ⟨μ, top_apply (attn Q K) _ _ hμ⟩

/-- The reference's steps, at one entry: the specification's attention of that head. -/
theorem steps_apply (hq : ∀ h, AllReal (headOf Q h)) (hk : ∀ h, AllReal (headOf K h)) :
    result (soft (exps (attn Q K) (top (attn Q K)))) V (ix3 h i e)
      = out (headOf Q h) (headOf K h) (headOf V h) i e := by
  obtain ⟨μ, hμ⟩ := top_real Q K h i hq hk
  choose α hα using fun j => att_real (hq h) (hk h) i j
  have hA := fun j => attn_apply Q K h i j (hq h) (hk h)
  generalize top (attn Q K) = T at hμ ⊢
  generalize attn Q K = A at hA ⊢
  pointwise [result, soft, exps]
  simp only [hA, hμ, hα]
  unfold out weight
  simp only [hα]
  exact softmax_eq α (seen (headOf Q h) (headOf K h) i) (fun j => V (ix4 0 h j e)) μ ⟨i, seen_self i _ _⟩

variable (m : (ℓ : Loc nD τ sig) → Buf (Elt Ideal) ℓ)

/-- The reference's result: head by head, the specification's attention. -/
theorem final (c : Dev nD) (hq : ∀ h, AllReal (headOf (m ((c.tc : Thread nD τ).loc main_arg0)) h))
    (hk : ∀ h, AllReal (headOf (m ((c.tc : Thread nD τ).loc main_arg1)) h)) (y : S12x2048x64.Idx) :
    (Value.res_main_v63 m c : FVec Ideal S12x2048x64 .f32) y = out (headOf (m ((c.tc : Thread nD τ).loc main_arg0)) (y 0))
      (headOf (m ((c.tc : Thread nD τ).loc main_arg1)) (y 0)) (headOf (m ((c.tc : Thread nD τ).loc main_arg2)) (y 0)) (y 1) (y 2) := by
  rw [res_eq]
  refine Eq.trans ?_ (steps_apply _ _ _ (y 0) (y 1) (y 2) hq hk)
  exact congrArg _ (eq_ix3 y)

end Cert.ReferenceIdeal.Steps

end
-- ==== Proof.Pre.lean ====
module

public import proofs.«01_k».proof.Pre_finite
public import proofs.«01_k».proof.Proof.Soft
public import Idealize.ShloMosaic.Lib.ReduceAll

/-! What the precondition `finite` says: every entry of the queries and of the keys is a real number. -/

@[expose] public section

set_option maxRecDepth 16384

noncomputable section

namespace Cert.Pre_finite

open Idealize.ShloMosaic Facts

variable [Facts]

/-- The word for `+∞` means `+∞`. -/
theorem bits_inf : Ideal.ofBits .f32 0x7F800000#32 = ⊤ := by
  simp [Ideal.ofBits, Ideal.ieee]

/-- An extended real of absolute value below infinity is real. -/
theorem real_of_abs (x : EReal) (h : max x (-x) < ⊤) : ∃ y : ℝ, x = (y : EReal) := by
  refine ⟨x.toReal, (EReal.coe_toReal ?_ ?_).symm⟩
  · rintro rfl
    exact lt_irrefl _ (lt_of_le_of_lt (le_max_left _ _) h)
  · rintro rfl
    rw [EReal.neg_bot] at h
    exact lt_irrefl _ (lt_of_le_of_lt (le_max_right _ _) h)

/-- A comparison bit of an absolute value with infinity, read back. -/
theorem real_of_bit (x : EReal) (h : BitVec.ofBool (decide (max x (-x) < Ideal.ofBits .f32 0x7F800000#32)) = 1#1) :
    ∃ y : ℝ, x = (y : EReal) := by
  rw [bits_inf] at h
  refine real_of_abs x ?_
  by_contra hn
  rw [decide_eq_false hn] at h
  exact absurd h (by decide)

/-- A tensor without axes has one index. -/
instance : Subsingleton S_.Idx := ⟨fun _ _ => funext fun a => a.elim0⟩

/-- Under the precondition the queries and the keys are real. -/
theorem reals (Q K V : FVec Ideal S1x12x2048x64 .f32) (h : fn (F := Ideal) Q K V = fun _ => 1#1) :
    (∀ z, ∃ y : ℝ, Q z = (y : EReal)) ∧ ∀ z, ∃ y : ℝ, K z = (y : EReal) := by
  obtain ⟨hq, hk⟩ := IntOp.andi_eq_one.mp (congrFun h (fun a => a.elim0))
  exact ⟨fun z => real_of_bit _ (Host.reduce_andi_all _ _ _ _ _ hq z),
    fun z => real_of_bit _ (Host.reduce_andi_all _ _ _ _ _ hk z)⟩

end Cert.Pre_finite

end
-- ==== Proof.Algebraic.lean ====
module

public import proofs.«01_k».proof.Defs
public import proofs.«01_k».proof.Proof.KFinal
public import proofs.«01_k».proof.Proof.RRef
public import proofs.«01_k».proof.Proof.Pre
public import proofs.«01_k».proof.Proof.Gen.Pre_finite
public import Idealize.ShloMosaic.Adequacy
public import Idealize.ShloMosaic.Init

/-! The kernel and the reference end with one result, where queries and keys are real. -/

@[expose] public section

set_option maxRecDepth 16384

noncomputable section

namespace Cert.Proof

open Cert.Spec Idealize.ShloMosaic Idealize.SL.Sem

/-- From arguments that agree, and real queries and keys, the two programs run and leave equal results. -/
theorem algebraic : Cert.algebraic_KernelIdeal_ReferenceIdeal_pre_finite := by
  pair_intro
  · run_from Cert.KernelIdeal.Gen.run_main m g
  · run_from Cert.ReferenceIdeal.Value.run m' g'
    obtain ⟨hq, hk⟩ := Cert.Pre_finite.reals _ _ _ (hpre c)
    obtain ⟨h0, h1, h2⟩ := hagree c
    have hq' : ∀ h, AllReal (Cert.ReferenceIdeal.Steps.headOf (m' (c.tc.loc Cert.ReferenceIdeal.main_arg0)) h) :=
      fun h i d => h0 ▸ hq _
    have hk' : ∀ h, AllReal (Cert.ReferenceIdeal.Steps.headOf (m' (c.tc.loc Cert.ReferenceIdeal.main_arg1)) h) :=
      fun h i d => h1 ▸ hk _
    refine Eq.trans ?_ (Cert.KernelIdeal.Body.final m c (fun h i d => hq _) (fun h i d => hk _)).symm
    refine (funext fun y => Cert.ReferenceIdeal.Steps.final m' c hq' hk' y).trans ?_
    rw [h0, h1, h2]
    rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference runs, keeps its arguments and leaves no semaphore up. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- All the claims of the certificate. -/
theorem claim : Cert.Claim := ⟨Cert.Kernel.Gen.facts, Cert.KernelIdeal.Gen.facts, Cert.ReferenceIdeal.Gen.facts, Cert.Pre_finite.Gen.facts,
  fun m g _ => Cert.Kernel.Gen.frame m g, fun m g _ => Cert.KernelIdeal.Gen.frame m g,
  fun m g _ => Cert.KernelIdeal.Gen.frame m g, frame_reference,
  fun m ρ _ => frame_reference m ρ (by trivial),
  IdealRules.named_const.statement Cert.KernelIdeal.κ "mask" .f32 0xF149F2CA#32 ⊥ rfl, algebraic⟩

end Cert.Proof

end
